-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_encodable [hKernelIdeal : Cert.KernelIdeal.Facts] [hReferenceIdeal : Cert.ReferenceIdeal.Facts] [hOn_encodable : Cert.On_encodable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1, 28672, 48]⟩ : Shape).Idx, (Cert.On_encodable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v41_0) i = v0 c i)
          ∧ (∀ i : (⟨3, ![1, 28672, 768]⟩ : Shape).Idx, (Cert.On_encodable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v41_1) i = v1 c i)
          ∧ (∀ i : (⟨3, ![1, 28672, 48]⟩ : Shape).Idx, (Cert.On_encodable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.KernelIdeal.nD Cert.KernelIdeal.τ).loc Cert.KernelIdeal.main_v41_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1, 28672, 48]⟩ : Shape).Idx, (Cert.On_encodable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v44) i = v0 c i)
          ∧ (∀ i : (⟨3, ![1, 28672, 768]⟩ : Shape).Idx, (Cert.On_encodable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v122) i = v1 c i)
          ∧ (∀ i : (⟨3, ![1, 28672, 48]⟩ : Shape).Idx, (Cert.On_encodable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.ReferenceIdeal.nD Cert.ReferenceIdeal.τ).loc Cert.ReferenceIdeal.main_v59) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_encodable : Cert.On_encodable.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_encodable (hKernelIdeal := hKernelIdeal) (hReferenceIdeal := hReferenceIdeal) (hOn_encodable := hOn_encodable)
-- ==== On_encodable.lean ====
abbrev S1x1536x28672 : Shape := ⟨3, ![1, 1536, 28672]⟩
abbrev S16 : Shape := ⟨1, ![16]⟩
abbrev S1x28672x1536 : Shape := ⟨3, ![1, 28672, 1536]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S1x96x16x28672 : Shape := ⟨4, ![1, 96, 16, 28672]⟩
abbrev S16x1x96x28672 : Shape := ⟨4, ![16, 1, 96, 28672]⟩
abbrev S1x28672x96x16 : Shape := ⟨4, ![1, 28672, 96, 16]⟩
abbrev S1x28672x48x32 : Shape := ⟨4, ![1, 28672, 48, 32]⟩
abbrev S1x28672x48 : Shape := ⟨3, ![1, 28672, 48]⟩
abbrev S1x28672x48x16 : Shape := ⟨4, ![1, 28672, 48, 16]⟩
abbrev S1x28672x768 : Shape := ⟨3, ![1, 28672, 768]⟩

class Facts : Prop where
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bitsLt_bf16_f32 : FTy.bits .bf16 < FTy.bits .f32
  shapeCasts_S1x1536x28672_S1x96x16x28672 : S1x1536x28672.ShapeCasts S1x96x16x28672
  transposes_S16x1x96x28672_S1x28672x96x16_1_3_2_0 : S16x1x96x28672.Transposes [1, 3, 2, 0] S1x28672x96x16
  shapeCasts_S1x28672x96x16_S1x28672x1536 : S1x28672x96x16.ShapeCasts S1x28672x1536
  shapeCasts_S1x28672x1536_S1x28672x48x32 : S1x28672x1536.ShapeCasts S1x28672x48x32
  reducesTo_S1x28672x48x32_S1x28672x48_d3 : S1x28672x48x32.ReducesTo [3] S1x28672x48
  h_S_ : 0 < S_.numel
  bcast_S_S1x28672x48 : S_.BroadcastsInDim S1x28672x48 (![] : Fin 0 → Fin S1x28672x48.rank)
  bcast_S1x28672x48_S1x28672x48x16_0_1_2 : S1x28672x48.BroadcastsInDim S1x28672x48x16 (![0, 1, 2] : Fin 3 → Fin S1x28672x48x16.rank)
  shapeCasts_S1x28672x48x16_S1x28672x768 : S1x28672x48x16.ShapeCasts S1x28672x768
  dot_S16x16_S1x96x16x28672_S16x1x96x28672_1_2_0_013_n_n_wf : DotDims.WF S16x16 S1x96x16x28672 S16x1x96x28672 [1] [2] [0] [0, 1, 3] [] []

variable [Facts]

def dot_S16x16_S1x96x16x28672_S16x1x96x28672_1_2_0_013_n_n : DotDims S16x16 S1x96x16x28672 S16x1x96x28672 where
  lhsContracting := [1]
  rhsContracting := [2]
  lhsNonContracting := [0]
  rhsNonContracting := [0, 1, 3]
  lhsBatch := []
  rhsBatch := []
  wf := dot_S16x16_S1x96x16x28672_S16x1x96x28672_1_2_0_013_n_n_wf
def fn_part3 {F : FTy → Type} [FloatOps F] (main_v43 : FVec F S1x28672x48 .f32) (main_v51 : IVec S1x28672x48 1) (main_v53 : IVec S1x28672x48 1) (main_v54 : FVec F S1x28672x48 .f32) : IVec S1x28672x48 1 × IVec S1x28672x768 1 × IVec S1x28672x48 1 :=
  let main_v55 : IVec S1x28672x48 1 := cmpf .oge main_v43 main_v54
  let main_cst_15 : FVec F S_ .f32 := constant S_ .f32 0x3F000000#32
  let main_v56 : FVec F S1x28672x48 .f32 := broadcastInDim S1x28672x48 ![] bcast_S_S1x28672x48 main_cst_15
  let main_v57 : FVec F S1x28672x48 .f32 := mulf main_v56 main_v43
  let main_cst_16 : FVec F S_ .f32 := constant S_ .f32 0x7F000000#32
  let main_v58 : FVec F S1x28672x48 .f32 := broadcastInDim S1x28672x48 ![] bcast_S_S1x28672x48 main_cst_16
  let main_v59 : IVec S1x28672x48 1 := cmpf .olt main_v57 main_v58
  let main_v60 : IVec S1x28672x48 1 := andi main_v55 main_v59
  let main_v61 : IVec S1x28672x48 1 := ori main_v53 main_v60
  let main_c_17 : IVec S_ 1 := constantI S_ 1 1#1
  let main_v62 : IVec S1x28672x48 1 := broadcastInDim S1x28672x48 ![] bcast_S_S1x28672x48 main_c_17
  let main_v63 : IVec S1x28672x48x16 1 := broadcastInDim S1x28672x48x16 ![0, 1, 2] bcast_S1x28672x48_S1x28672x48x16_0_1_2 main_v51
  let main_v64 : IVec S1x28672x768 1 := shapeCast S1x28672x768 main_v63 shapeCasts_S1x28672x48x16_S1x28672x768
  (main_v62, main_v64, main_v61)

def fn_part2 {F : FTy → Type} [FloatOps F] (main_arg0 : FVec F S1x1536x28672 .bf16) (main_v36 : FVec F S16x16 .bf16) : IVec S1x28672x48 1 × IVec S1x28672x768 1 × IVec S1x28672x48 1 :=
  let main_v37 : FVec F S1x96x16x28672 .bf16 := shapeCast S1x96x16x28672 main_arg0 shapeCasts_S1x1536x28672_S1x96x16x28672
  let main_v38 : FVec F S16x1x96x28672 .f32 := (fun l r => Host.dotGeneral dot_S16x16_S1x96x16x28672_S16x1x96x28672_1_2_0_013_n_n none l r) main_v36 main_v37
  let main_v39 : FVec F S1x28672x96x16 .f32 := (transpose S1x28672x96x16 [1, 3, 2, 0] · transposes_S16x1x96x28672_S1x28672x96x16_1_3_2_0) main_v38
  let main_v40 : FVec F S1x28672x1536 .f32 := shapeCast S1x28672x1536 main_v39 shapeCasts_S1x28672x96x16_S1x28672x1536
  let main_v41 : FVec F S1x28672x48x32 .f32 := shapeCast S1x28672x48x32 main_v40 shapeCasts_S1x28672x1536_S1x28672x48x32
  let main_v42 : FVec F S1x28672x48x32 .f32 := Host.absf main_v41
  let main_cst_9 : FVec F S_ .f32 := constant S_ .f32 0xFF800000#32
  let main_v43 : FVec F S1x28672x48 .f32 := (fun x v => Host.reduce FloatOps.maximumf x v reducesTo_S1x28672x48x32_S1x28672x48_d3 h_S_) main_v42 main_cst_9
  let main_cst_10 : FVec F S_ .f32 := constant S_ .f32 0x00000000#32
  let main_v44 : FVec F S1x28672x48 .f32 := broadcastInDim S1x28672x48 ![] bcast_S_S1x28672x48 main_cst_10
  let main_v45 : IVec S1x28672x48 1 := cmpf .oeq main_v43 main_v44
  let main_cst_11 : FVec F S_ .f32 := constant S_ .f32 0x01000000#32
  let main_v46 : FVec F S1x28672x48 .f32 := broadcastInDim S1x28672x48 ![] bcast_S_S1x28672x48 main_cst_11
  let main_v47 : IVec S1x28672x48 1 := cmpf .oge main_v43 main_v46
  let main_cst_12 : FVec F S_ .f32 := constant S_ .f32 0x7F000000#32
  let main_v48 : FVec F S1x28672x48 .f32 := broadcastInDim S1x28672x48 ![] bcast_S_S1x28672x48 main_cst_12
  let main_v49 : IVec S1x28672x48 1 := cmpf .ole main_v43 main_v48
  let main_v50 : IVec S1x28672x48 1 := andi main_v47 main_v49
  let main_v51 : IVec S1x28672x48 1 := ori main_v45 main_v50
  let main_cst_13 : FVec F S_ .f32 := constant S_ .f32 0x00000000#32
  let main_v52 : FVec F S1x28672x48 .f32 := broadcastInDim S1x28672x48 ![] bcast_S_S1x28672x48 main_cst_13
  let main_v53 : IVec S1x28672x48 1 := cmpf .oeq main_v43 main_v52
  let main_cst_14 : FVec F S_ .f32 := constant S_ .f32 0x00400000#32
  let main_v54 : FVec F S1x28672x48 .f32 := broadcastInDim S1x28672x48 ![] bcast_S_S1x28672x48 main_cst_14
  fn_part3 (F := F) main_v43 main_v51 main_v53 main_v54

def fn_part1 {F : FTy → Type} [FloatOps F] (main_arg0 : FVec F S1x1536x28672 .bf16) (main_arg1 : FVec F S16 .f32) (main_v6 : IVec S16x16 32) (main_v18 : IVec S16x16 32) : IVec S1x28672x48 1 × IVec S1x28672x768 1 × IVec S1x28672x48 1 :=
  let main_c_4 : IVec S_ 32 := constantI S_ 32 3#32
  let main_v19 : IVec S16x16 32 := broadcastInDim S16x16 ![] bcast_S_S16x16 main_c_4
  let main_v20 : IVec S16x16 32 := Host.shrsi main_v6 main_v19
  let main_c_5 : IVec S_ 32 := constantI S_ 32 1#32
  let main_v21 : IVec S16x16 32 := broadcastInDim S16x16 ![] bcast_S_S16x16 main_c_5
  let main_v22 : IVec S16x16 32 := andi main_v20 main_v21
  let main_v23 : IVec S16x16 32 := addi main_v18 main_v22
  let main_c_6 : IVec S_ 32 := constantI S_ 32 1#32
  let main_v24 : IVec S16x16 32 := broadcastInDim S16x16 ![] bcast_S_S16x16 main_c_6
  let main_v25 : IVec S16x16 32 := andi main_v23 main_v24
  let main_v26 : FVec F S16x16 .f32 := sitofp .f32 main_v25
  let main_cst : FVec F S_ .f32 := constant S_ .f32 0x40000000#32
  let main_v27 : FVec F S16x16 .f32 := broadcastInDim S16x16 ![] bcast_S_S16x16 main_cst
  let main_v28 : FVec F S16x16 .f32 := mulf main_v27 main_v26
  let main_cst_7 : FVec F S_ .f32 := constant S_ .f32 0x3F800000#32
  let main_v29 : FVec F S16x16 .f32 := broadcastInDim S16x16 ![] bcast_S_S16x16 main_cst_7
  let main_v30 : FVec F S16x16 .f32 := subf main_v29 main_v28
  let main_cst_8 : FVec F S_ .f32 := constant S_ .f32 0x3E800000#32
  let main_v31 : FVec F S16x16 .f32 := broadcastInDim S16x16 ![] bcast_S_S16x16 main_cst_8
  let main_v32 : FVec F S16x16 .f32 := mulf main_v31 main_v30
  let main_v33 : FVec F S1x16 .f32 := broadcastInDim S1x16 ![1] bcast_S16_S1x16_1 main_arg1
  let main_v34 : FVec F S16x16 .f32 := broadcastInDim S16x16 ![0, 1] bcast_S1x16_S16x16_0_1 main_v33
  let main_v35 : FVec F S16x16 .f32 := mulf main_v32 main_v34
  let main_v36 : FVec F S16x16 .bf16 := (truncf .bf16 · bitsLt_bf16_f32) main_v35
  fn_part2 (F := F) main_arg0 main_v36

def fn {F : FTy → Type} [FloatOps F] (main_arg0 : FVec F S1x1536x28672 .bf16) (main_arg1 : FVec F S16 .f32) (main_arg2 : IVec S1x28672x1536 8) : IVec S1x28672x48 1 × IVec S1x28672x768 1 × IVec S1x28672x48 1 :=
  let main_v0 : IVec S16 32 := iotaInDim S16 32 0
  let main_v1 : IVec S16x1 32 := broadcastInDim S16x1 ![0] bcast_S16_S16x1_0 main_v0
  let main_v2 : IVec S16 32 := iotaInDim S16 32 0
  let main_v3 : IVec S1x16 32 := broadcastInDim S1x16 ![1] bcast_S16_S1x16_1 main_v2
  let main_v4 : IVec S16x16 32 := broadcastInDim S16x16 ![0, 1] bcast_S16x1_S16x16_0_1 main_v1
  let main_v5 : IVec S16x16 32 := broadcastInDim S16x16 ![0, 1] bcast_S1x16_S16x16_0_1 main_v3
  let main_v6 : IVec S16x16 32 := andi main_v4 main_v5
  let main_c : IVec S_ 32 := constantI S_ 32 1#32
  let main_v7 : IVec S16x16 32 := broadcastInDim S16x16 ![] bcast_S_S16x16 main_c
  let main_v8 : IVec S16x16 32 := andi main_v6 main_v7
  let main_c_0 : IVec S_ 32 := constantI S_ 32 1#32
  let main_v9 : IVec S16x16 32 := broadcastInDim S16x16 ![] bcast_S_S16x16 main_c_0
  let main_v10 : IVec S16x16 32 := Host.shrsi main_v6 main_v9
  let main_c_1 : IVec S_ 32 := constantI S_ 32 1#32
  let main_v11 : IVec S16x16 32 := broadcastInDim S16x16 ![] bcast_S_S16x16 main_c_1
  let main_v12 : IVec S16x16 32 := andi main_v10 main_v11
  let main_v13 : IVec S16x16 32 := addi main_v8 main_v12
  let main_c_2 : IVec S_ 32 := constantI S_ 32 2#32
  let main_v14 : IVec S16x16 32 := broadcastInDim S16x16 ![] bcast_S_S16x16 main_c_2
  let main_v15 : IVec S16x16 32 := Host.shrsi main_v6 main_v14
  let main_c_3 : IVec S_ 32 := constantI S_ 32 1#32
  let main_v16 : IVec S16x16 32 := broadcastInDim S16x16 ![] bcast_S_S16x16 main_c_3
  let main_v17 : IVec S16x16 32 := andi main_v15 main_v16
  let main_v18 : IVec S16x16 32 := addi main_v13 main_v17
  fn_part1 (F := F) main_arg0 main_arg1 main_v6 main_v18
-- ==== Kernel.lean ====
abbrev S1x1536x28672 : Shape := ⟨3, ![1, 1536, 28672]⟩
abbrev S16 : Shape := ⟨1, ![16]⟩
abbrev S1x28672x1536 : Shape := ⟨3, ![1, 28672, 1536]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S1x28672x48 : Shape := ⟨3, ![1, 28672, 48]⟩
abbrev S1x28672x768 : Shape := ⟨3, ![1, 28672, 768]⟩
abbrev S1x1536x512 : Shape := ⟨3, ![1, 1536, 512]⟩
abbrev S1x512x1536 : Shape := ⟨3, ![1, 512, 1536]⟩
abbrev S1x512x48 : Shape := ⟨3, ![1, 512, 48]⟩
abbrev S1x512x768 : Shape := ⟨3, ![1, 512, 768]⟩
abbrev S48x512 : Shape := ⟨2, ![48, 512]⟩
abbrev S1x256x256 : Shape := ⟨3, ![1, 256, 256]⟩
abbrev S1x128x128 : Shape := ⟨3, ![1, 128, 128]⟩
abbrev S128x128 : Shape := ⟨2, ![128, 128]⟩
abbrev S32x128 : Shape := ⟨2, ![32, 128]⟩
abbrev S128 : Shape := ⟨1, ![128]⟩
abbrev S1x128 : Shape := ⟨2, ![1, 128]⟩
abbrev S16x128 : Shape := ⟨2, ![16, 128]⟩
abbrev S8x128 : Shape := ⟨2, ![8, 128]⟩
abbrev S48x128 : Shape := ⟨2, ![48, 128]⟩
abbrev S128x48 : Shape := ⟨2, ![128, 48]⟩
abbrev S1x128x48 : Shape := ⟨3, ![1, 128, 48]⟩

abbrev nBuf : Space → Nat
  | .hbm => 55
  | .vmem => 13
  | .smem => 0
  | _ => 0

abbrev bufTy : (tb : Table) → Fin (tcTables nBuf tb) → BufTy
  | .hbm, ⟨0, _⟩ => ⟨S1x1536x28672, .bf16⟩
  | .hbm, ⟨1, _⟩ => ⟨S16, .f32⟩
  | .hbm, ⟨2, _⟩ => ⟨S1x28672x1536, .i8⟩
  | .hbm, ⟨3, _⟩ => ⟨S16, .i32⟩
  | .hbm, ⟨4, _⟩ => ⟨S16x1, .i32⟩
  | .hbm, ⟨5, _⟩ => ⟨S16, .i32⟩
  | .hbm, ⟨6, _⟩ => ⟨S1x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S16x16, .i32⟩
  | .hbm, ⟨18, _⟩ => ⟨S_, .i32⟩
  | .hbm, ⟨19, _⟩ => ⟨S16x16, .i32⟩
  | .hbm, ⟨20, _⟩ => ⟨S16x16, .i32⟩
  | .hbm, ⟨21, _⟩ => ⟨S16x16, .i32⟩
  | .hbm, ⟨22, _⟩ => ⟨S_, .i32⟩
  | .hbm, ⟨23, _⟩ => ⟨S16x16, .i32⟩
  | .hbm, ⟨24, _⟩ => ⟨S16x16, .i32⟩
  | .hbm, ⟨25, _⟩ => ⟨S16x16, .f32⟩
  | .hbm, ⟨26, _⟩ => ⟨S_, .f32⟩
  | .hbm, ⟨27, _⟩ => ⟨S16x16, .f32⟩
  | .hbm, ⟨28, _⟩ => ⟨S16x16, .f32⟩
  | .hbm, ⟨29, _⟩ => ⟨S_, .f32⟩
  | .hbm, ⟨30, _⟩ => ⟨S16x16, .f32⟩
  | .hbm, ⟨31, _⟩ => ⟨S16x16, .f32⟩
  | .hbm, ⟨32, _⟩ => ⟨S_, .f32⟩
  | .hbm, ⟨33, _⟩ => ⟨S16x16, .f32⟩
  | .hbm, ⟨34, _⟩ => ⟨S16x16, .f32⟩
  | .hbm, ⟨35, _⟩ => ⟨S1x16, .f32⟩
  | .hbm, ⟨36, _⟩ => ⟨S16x16, .f32⟩
  | .hbm, ⟨37, _⟩ => ⟨S16x16, .f32⟩
  | .hbm, ⟨38, _⟩ => ⟨S16x16, .bf16⟩
  | .hbm, ⟨39, _⟩ => ⟨S16x16, .i32⟩
  | .hbm, ⟨40, _⟩ => ⟨S16x16, .i32⟩
  | .hbm, ⟨41, _⟩ => ⟨S_, .i32⟩
  | .hbm, ⟨42, _⟩ => ⟨S16x16, .i32⟩
  | .hbm, ⟨43, _⟩ => ⟨S16x16, .i32⟩
  | .hbm, ⟨44, _⟩ => ⟨S16x16, .i1⟩
  | .hbm, ⟨45, _⟩ => ⟨S16x16, .bf16⟩
  | .hbm, ⟨46, _⟩ => ⟨S16x1x16x1, .bf16⟩
  | .hbm, ⟨47, _⟩ => ⟨S1x16x1x16, .bf16⟩
  | .hbm, ⟨48, _⟩ => ⟨S16x16x16x16, .bf16⟩
  | .hbm, ⟨49, _⟩ => ⟨S16x16x16x16, .bf16⟩
  | .hbm, ⟨50, _⟩ => ⟨S16x16x16x16, .bf16⟩
  | .hbm, ⟨51, _⟩ => ⟨S256x256, .bf16⟩
  | .hbm, ⟨52, _⟩ => ⟨S1x28672x48, .f32⟩
  | .hbm, ⟨53, _⟩ => ⟨S1x28672x768, .i8⟩
  | .hbm, ⟨54, _⟩ => ⟨S1x28672x48, .i8⟩
  | .local _ .vmem, ⟨0, _⟩ => ⟨S1x1536x512, .bf16⟩
  | .local _ .vmem, ⟨1, _⟩ => ⟨S1x1536x512, .bf16⟩
  | .local _ .vmem, ⟨2, _⟩ => ⟨S256x256, .bf16⟩
  | .local _ .vmem, ⟨3, _⟩ => ⟨S1x512x1536, .i8⟩
  | .local _ .vmem, ⟨4, _⟩ => ⟨S1x512x1536, .i8⟩
  | .local _ .vmem, ⟨5, _⟩ => ⟨S1x512x48, .f32⟩
  | .local _ .vmem, ⟨6, _⟩ => ⟨S1x512x48, .f32⟩
  | .local _ .vmem, ⟨7, _⟩ => ⟨S1x512x768, .i8⟩
  | .local _ .vmem, ⟨8, _⟩ => ⟨S1x512x768, .i8⟩
  | .local _ .vmem, ⟨9, _⟩ => ⟨S1x512x48, .i8⟩
  | .local _ .vmem, ⟨10, _⟩ => ⟨S1x512x48, .i8⟩
  | .local _ .vmem, ⟨11, _⟩ => ⟨S256x256, .f32⟩
  | .local _ .vmem, ⟨12, _⟩ => ⟨S48x512, .f32⟩
  | _, _ => ⟨S1x1536x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41_0 : Ref sig .tc := ⟨.hbm, 52, rfl⟩
abbrev main_v41_1 : Ref sig .tc := ⟨.hbm, 53, rfl⟩
abbrev main_v41_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 56], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1536 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x48 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1x1536x28672 : Shape := ⟨3, ![1, 1536, 28672]⟩
abbrev S16 : Shape := ⟨1, ![16]⟩
abbrev S1x28672x1536 : Shape := ⟨3, ![1, 28672, 1536]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S1x96x16x28672 : Shape := ⟨4, ![1, 96, 16, 28672]⟩
abbrev S16x1x96x28672 : Shape := ⟨4, ![16, 1, 96, 28672]⟩
abbrev S1x28672x96x16 : Shape := ⟨4, ![1, 28672, 96, 16]⟩
abbrev S1x28672x48x32 : Shape := ⟨4, ![1, 28672, 48, 32]⟩
abbrev S1x28672x48 : Shape := ⟨3, ![1, 28672, 48]⟩
abbrev S1x28672x48x1 : Shape := ⟨4, ![1, 28672, 48, 1]⟩
abbrev S1x28672x768x2 : Shape := ⟨4, ![1, 28672, 768, 2]⟩
abbrev S1x28672x768x1 : Shape := ⟨4, ![1, 28672, 768, 1]⟩
abbrev S1x28672x768 : Shape := ⟨3, ![1, 28672, 768]⟩

abbrev nBuf : Space → Nat
  | .hbm => 173
  | .vmem => 0
  | .smem => 0
  | _ => 0

abbrev hbmTy0_0 (i : Nat) : BufTy := match i % 128 with
  | 0 => ⟨S1x1536x28672, .bf16⟩
  | 1 => ⟨S16, .f32⟩
  | 2 => ⟨S1x28672x1536, .i8⟩
  | 3 => ⟨S16, .i32⟩
  | 4 => ⟨S16x1, .i32⟩
  | 5 => ⟨S16, .i32⟩
  | 6 => ⟨S1x16, .i32⟩
  | 7 => ⟨S16x16, .i32⟩
  | 8 => ⟨S16x16, .i32⟩
  | 9 => ⟨S16x16, .i32⟩
  | 10 => ⟨S_, .i32⟩
  | 11 => ⟨S16x16, .i32⟩
  | 12 => ⟨S16x16, .i32⟩
  | 13 => ⟨S_, .i32⟩
  | 14 => ⟨S16x16, .i32⟩
  | 15 => ⟨S16x16, .i32⟩
  | 16 => ⟨S_, .i32⟩
  | 17 => ⟨S16x16, .i32⟩
  | 18 => ⟨S16x16, .i32⟩
  | 19 => ⟨S16x16, .i32⟩
  | 20 => ⟨S_, .i32⟩
  | 21 => ⟨S16x16, .i32⟩
  | 22 => ⟨S16x16, .i32⟩
  | 23 => ⟨S_, .i32⟩
  | 24 => ⟨S16x16, .i32⟩
  | 25 => ⟨S16x16, .i32⟩
  | 26 => ⟨S16x16, .i32⟩
  | 27 => ⟨S_, .i32⟩
  | 28 => ⟨S16x16, .i32⟩
  | 29 => ⟨S16x16, .i32⟩
  | 30 => ⟨S_, .i32⟩
  | 31 => ⟨S16x16, .i32⟩
  | 32 => ⟨S16x16, .i32⟩
  | 33 => ⟨S16x16, .i32⟩
  | 34 => ⟨S_, .i32⟩
  | 35 => ⟨S16x16, .i32⟩
  | 36 => ⟨S16x16, .i32⟩
  | 37 => ⟨S16x16, .f32⟩
  | 38 => ⟨S_, .f32⟩
  | 39 => ⟨S16x16, .f32⟩
  | 40 => ⟨S16x16, .f32⟩
  | 41 => ⟨S_, .f32⟩
  | 42 => ⟨S16x16, .f32⟩
  | 43 => ⟨S16x16, .f32⟩
  | 44 => ⟨S_, .f32⟩
  | 45 => ⟨S16x16, .f32⟩
  | 46 => ⟨S16x16, .f32⟩
  | 47 => ⟨S1x16, .f32⟩
  | 48 => ⟨S16x16, .f32⟩
  | 49 => ⟨S16x16, .f32⟩
  | 50 => ⟨S16x16, .bf16⟩
  | 51 => ⟨S1x96x16x28672, .bf16⟩
  | 52 => ⟨S16x1x96x28672, .f32⟩
  | 53 => ⟨S1x28672x96x16, .f32⟩
  | 54 => ⟨S1x28672x1536, .f32⟩
  | 55 => ⟨S1x28672x48x32, .f32⟩
  | 56 => ⟨S1x28672x48x32, .f32⟩
  | 57 => ⟨S1x28672x48x32, .f32⟩
  | 58 => ⟨S_, .f32⟩
  | 59 => ⟨S1x28672x48, .f32⟩
  | 60 => ⟨S_, .f32⟩
  | 61 => ⟨S1x28672x48, .f32⟩
  | 62 => ⟨S1x28672x48, .i1⟩
  | 63 => ⟨S1x28672x48, .f32⟩
  | 64 => ⟨S_, .f32⟩
  | 65 => ⟨S_, .f32⟩
  | 66 => ⟨S_, .f32⟩
  | 67 => ⟨S1x28672x48, .f32⟩
  | 68 => ⟨S1x28672x48, .f32⟩
  | 69 => ⟨S1x28672x48, .f32⟩
  | 70 => ⟨S_, .f32⟩
  | 71 => ⟨S1x28672x48, .f32⟩
  | 72 => ⟨S1x28672x48, .f32⟩
  | 73 => ⟨S_, .f32⟩
  | 74 => ⟨S_, .f32⟩
  | 75 => ⟨S1x28672x48, .f32⟩
  | 76 => ⟨S1x28672x48, .f32⟩
  | 77 => ⟨S1x28672x48, .i32⟩
  | 78 => ⟨S_, .i32⟩
  | 79 => ⟨S1x28672x48, .i32⟩
  | 80 => ⟨S1x28672x48, .i32⟩
  | 81 => ⟨S1x28672x48, .i8⟩
  | 82 => ⟨S1x28672x48, .f32⟩
  | 83 => ⟨S_, .f32⟩
  | 84 => ⟨S1x28672x48, .f32⟩
  | 85 => ⟨S1x28672x48, .f32⟩
  | 86 => ⟨S1x28672x48x1, .f32⟩
  | 87 => ⟨S1x28672x48x32, .f32⟩
  | 88 => ⟨S1x28672x48x32, .f32⟩
  | 89 => ⟨S_, .f32⟩
  | 90 => ⟨S_, .f32⟩
  | 91 => ⟨S_, .f32⟩
  | 92 => ⟨S1x28672x48x32, .f32⟩
  | 93 => ⟨S1x28672x48x32, .f32⟩
  | 94 => ⟨S_, .f32⟩
  | 95 => ⟨S1x28672x48x32, .f32⟩
  | 96 => ⟨S1x28672x48x32, .f32⟩
  | 97 => ⟨S1x28672x48x32, .f32⟩
  | 98 => ⟨S_, .f32⟩
  | 99 => ⟨S1x28672x48x32, .f32⟩
  | 100 => ⟨S1x28672x48x32, .i1⟩
  | 101 => ⟨S_, .f32⟩
  | 102 => ⟨S1x28672x48x32, .f32⟩
  | 103 => ⟨S1x28672x48x32, .i1⟩
  | 104 => ⟨S_, .f32⟩
  | 105 => ⟨S_, .f32⟩
  | 106 => ⟨S1x28672x48x32, .f32⟩
  | 107 => ⟨S1x28672x48x32, .f32⟩
  | 108 => ⟨S1x28672x48x32, .f32⟩
  | 109 => ⟨S_, .f32⟩
  | 110 => ⟨S1x28672x48x32, .f32⟩
  | 111 => ⟨S1x28672x48x32, .f32⟩
  | 112 => ⟨S1x28672x48x32, .f32⟩
  | 113 => ⟨S1x28672x48x32, .f32⟩
  | 114 => ⟨S1x28672x48x32, .f32⟩
  | 115 => ⟨S1x28672x48x32, .f32⟩
  | 116 => ⟨S1x28672x48x32, .f32⟩
  | 117 => ⟨S1x28672x48x32, .f32⟩
  | 118 => ⟨S1x28672x48x32, .i8⟩
  | 119 => ⟨S1x28672x48x32, .i32⟩
  | 120 => ⟨S1x28672x48x32, .f32⟩
  | 121 => ⟨S_, .f32⟩
  | 122 => ⟨S1x28672x48x32, .f32⟩
  | 123 => ⟨S1x28672x48x32, .f32⟩
  | 124 => ⟨S_, .f32⟩
  | 125 => ⟨S1x28672x48x32, .f32⟩
  | 126 => ⟨S1x28672x48x32, .f32⟩
  | 127 => ⟨S1x28672x48x32, .i1⟩
  | _ => ⟨S1x1536x28672, .bf16⟩

abbrev hbmTy0_1 (i : Nat) : BufTy := match i % 128 with
  | 0 => ⟨S1x28672x48x32, .f32⟩
  | 1 => ⟨S1x28672x48x32, .f32⟩
  | 2 => ⟨S1x28672x48x32, .f32⟩
  | 3 => ⟨S_, .f32⟩
  | 4 => ⟨S1x28672x48x32, .f32⟩
  | 5 => ⟨S1x28672x48x32, .i1⟩
  | 6 => ⟨S_, .f32⟩
  | 7 => ⟨S1x28672x48x32, .f32⟩
  | 8 => ⟨S1x28672x48x32, .f32⟩
  | 9 => ⟨S_, .f32⟩
  | 10 => ⟨S1x28672x48x32, .f32⟩
  | 11 => ⟨S1x28672x48x32, .i1⟩
  | 12 => ⟨S_, .f32⟩
  | 13 => ⟨S1x28672x48x32, .f32⟩
  | 14 => ⟨S1x28672x48x32, .f32⟩
  | 15 => ⟨S_, .f32⟩
  | 16 => ⟨S1x28672x48x32, .f32⟩
  | 17 => ⟨S1x28672x48x32, .f32⟩
  | 18 => ⟨S_, .f32⟩
  | 19 => ⟨S1x28672x48x32, .f32⟩
  | 20 => ⟨S1x28672x48x32, .f32⟩
  | 21 => ⟨S1x28672x48x32, .f32⟩
  | 22 => ⟨S1x28672x48x32, .f32⟩
  | 23 => ⟨S1x28672x48x32, .i32⟩
  | 24 => ⟨S_, .f32⟩
  | 25 => ⟨S1x28672x48x32, .f32⟩
  | 26 => ⟨S1x28672x48x32, .i1⟩
  | 27 => ⟨S_, .i32⟩
  | 28 => ⟨S1x28672x48x32, .i32⟩
  | 29 => ⟨S1x28672x48x32, .i1⟩
  | 30 => ⟨S1x28672x48x32, .i1⟩
  | 31 => ⟨S_, .i32⟩
  | 32 => ⟨S1x28672x48x32, .i32⟩
  | 33 => ⟨S1x28672x48x32, .i32⟩
  | 34 => ⟨S1x28672x48x32, .i32⟩
  | 35 => ⟨S1x28672x768x2, .i32⟩
  | 36 => ⟨S1x28672x768x1, .i32⟩
  | 37 => ⟨S1x28672x768, .i32⟩
  | 38 => ⟨S1x28672x768x1, .i32⟩
  | 39 => ⟨S1x28672x768, .i32⟩
  | 40 => ⟨S_, .i32⟩
  | 41 => ⟨S1x28672x768, .i32⟩
  | 42 => ⟨S1x28672x768, .i32⟩
  | 43 => ⟨S1x28672x768, .i32⟩
  | 44 => ⟨S1x28672x768, .i8⟩
  | _ => ⟨S1x1536x28672, .bf16⟩

abbrev hbmTy (i : Nat) : BufTy := match i / 128 with
  | 0 => hbmTy0_0 i
  | 1 => hbmTy0_1 i
  | _ => ⟨S1x1536x28672, .bf16⟩

abbrev bufTy : (tb : Table) → Fin (tcTables nBuf tb) → BufTy
  | .hbm, ⟨i, _⟩ => hbmTy i
  | _, _ => ⟨S1x1536x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_call0_v0 : Ref sig .tc := ⟨.hbm, 74, rfl⟩
abbrev main_call0_v1 : Ref sig .tc := ⟨.hbm, 75, rfl⟩
abbrev main_v55 : Ref sig .tc := ⟨.hbm, 76, rfl⟩
abbrev main_v56 : Ref sig .tc := ⟨.hbm, 77, rfl⟩
abbrev main_c_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_cst_17 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_v66 : Ref sig .tc := ⟨.hbm, 96, rfl⟩
abbrev main_v67 : Ref sig .tc := ⟨.hbm, 97, rfl⟩
abbrev main_cst_18 : Ref sig .tc := ⟨.hbm, 98, rfl⟩
abbrev main_v68 : Ref sig .tc := ⟨.hbm, 99, rfl⟩
abbrev main_v69 : Ref sig .tc := ⟨.hbm, 100, rfl⟩
abbrev main_cst_19 : Ref sig .tc := ⟨.hbm, 101, rfl⟩
abbrev main_v70 : Ref sig .tc := ⟨.hbm, 102, rfl⟩
abbrev main_v71 : Ref sig .tc := ⟨.hbm, 103, rfl⟩
abbrev main_cst_20 : Ref sig .tc := ⟨.hbm, 104, rfl⟩
abbrev main_cst_21 : Ref sig .tc := ⟨.hbm, 105, rfl⟩
abbrev main_call2_v0 : Ref sig .tc := ⟨.hbm, 106, rfl⟩
abbrev main_call2_v1 : Ref sig .tc := ⟨.hbm, 107, rfl⟩
abbrev main_v72 : Ref sig .tc := ⟨.hbm, 108, rfl⟩
abbrev main_cst_22 : Ref sig .tc := ⟨.hbm, 109, rfl⟩
abbrev main_call3_v0 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_23 : Ref sig .tc := ⟨.hbm, 121, rfl⟩
abbrev main_v83 : Ref sig .tc := ⟨.hbm, 122, rfl⟩
abbrev main_v84 : Ref sig .tc := ⟨.hbm, 123, rfl⟩
abbrev main_cst_24 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_25 : Ref sig .tc := ⟨.hbm, 131, rfl⟩
abbrev main_v91 : Ref sig .tc := ⟨.hbm, 132, rfl⟩
abbrev main_v92 : Ref sig .tc := ⟨.hbm, 133, rfl⟩
abbrev main_cst_26 : Ref sig .tc := ⟨.hbm, 134, rfl⟩
abbrev main_v93 : Ref sig .tc := ⟨.hbm, 135, rfl⟩
abbrev main_v94 : Ref sig .tc := ⟨.hbm, 136, rfl⟩
abbrev main_cst_27 : Ref sig .tc := ⟨.hbm, 137, rfl⟩
abbrev main_v95 : Ref sig .tc := ⟨.hbm, 138, rfl⟩
abbrev main_v96 : Ref sig .tc := ⟨.hbm, 139, rfl⟩
abbrev main_cst_28 : Ref sig .tc := ⟨.hbm, 140, rfl⟩
abbrev main_v97 : Ref sig .tc := ⟨.hbm, 141, rfl⟩
abbrev main_v98 : Ref sig .tc := ⟨.hbm, 142, rfl⟩
abbrev main_cst_29 : Ref sig .tc := ⟨.hbm, 143, rfl⟩
abbrev main_v99 : Ref sig .tc := ⟨.hbm, 144, rfl⟩
abbrev main_v100 : Ref sig .tc := ⟨.hbm, 145, rfl⟩
abbrev main_cst_30 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_31 : Ref sig .tc := ⟨.hbm, 152, rfl⟩
abbrev main_v106 : Ref sig .tc := ⟨.hbm, 153, rfl⟩
abbrev main_v107 : Ref sig .tc := ⟨.hbm, 154, rfl⟩
abbrev main_c_32 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_c_33 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_34 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩

abbrev nD : Nat := 1
abbrev τ : Topo := Topo.v7x

variable {F : FTy → Type} [FloatOps F]
-- ==== Proof.Body.lean ====
/-
  What the kernel's body computes, as a few functions on vectors, for any float values `F`.

  One grid point handles 1536 tokens by 512 channels, in 24 tiles of 256 tokens by 128 channels. A tile holds eight
  blocks of 32 tokens. The functions here follow the body's operations one by one: the product with the Hadamard
  matrix (`hadTile`), a block's largest magnitude (`blockAmax`), its scale word (`scaleWord`), its 32 x 128 codes packed
  two to a byte (`codeRows`), a tile of codes (`codeTile`), and the tile's eight rows of largest magnitudes (`amTile`).
-/
module

public import proofs.«01_k».proof.Proof.Gen.KernelIdeal

@[expose] public section

noncomputable section

namespace Cert.KernelIdeal.Body

open Idealize.ShloMosaic Cert.KernelIdeal Cert.KernelIdeal.Gen

variable {F : FTy → Type} [FloatOps F]

/-- One comparison of the exponent search: raise `e` by `c` where `v` is at least the float of those bits. -/
def expStep {s : Shape} (v : FVec F s .f32) (c : BitVec 32) (e : IVec s 32) : IVec s 32 :=
  select (cmpf .oge v (bitcastToFloat .f32 (addi e (broadcast s c)))) (addi e (broadcast s c)) e

/-- The word of the largest power of two that is at most `v`: its exponent field set and its mantissa zero. -/
def expBits {s : Shape} (v : FVec F s .f32) : IVec s 32 :=
  expStep v 8388608#32 (expStep v 16777216#32 (expStep v 33554432#32 (expStep v 67108864#32
    (expStep v 134217728#32 (expStep v 268435456#32 (expStep v 536870912#32 (expStep v 1073741824#32
      (broadcast s 0#32))))))))

/-- The word of a power of two, `e`, plus the distance from it to `v` in units of the last place, rounded up. -/
def floatBitsOf {s : Shape} (e : IVec s 32) (v : FVec F s .f32) : IVec s 32 :=
  addi e (fptosi 32 (ceil (mulf
    (divf (subf v (bitcastToFloat .f32 e)) (bitcastToFloat .f32 (maxsi e (broadcast s 8388608#32))))
    (broadcast s (Scalar.ofBits .f32 0x4B000000#32)))))

/-- The word of the float `v`. -/
def floatBits {s : Shape} (v : FVec F s .f32) : IVec s 32 := floatBitsOf (expBits v) v

/-- The scale word from the power of two `e`: two below its exponent field, or 127 where `amax` is zero. -/
def scaleWordOf {s : Shape} (e : IVec s 32) (amax : FVec F s .f32) : IVec s 32 :=
  select (cmpf .ogt amax (broadcast s (Scalar.ofBits .f32 0x00000000#32)))
    (subi (shrui e (broadcast s 23#32)) (broadcast s 2#32)) (broadcast s 127#32)

/-- The scale word of a block whose largest magnitude is `amax`. -/
def scaleWord {s : Shape} (amax : FVec F s .f32) : IVec s 32 := scaleWordOf (expBits amax) amax

/-- The largest magnitude of each column of a block. -/
def blockAmax (w : FVec F S32x128 .f32) : FVec F S1x128 .f32 :=
  shapeCast S1x128 (multiReduction .maximumf [0] S128 (absf w) 0xFF800000#32 reduces_S32x128_S128 (.inl rfl) rfl)
    shapeCasts_S128_S1x128

/-- The magnitude plus the larger of itself and the scale: its bits hold the code on a uniform grid. -/
def shifted (w : FVec F S32x128 .f32) : FVec F S32x128 .f32 :=
  addf (absf w) (maximumf (absf w)
    (broadcastTo S32x128 (bitcastToFloat .f32 (shli (scaleWord (blockAmax w)) (broadcast S1x128 23#32))) broadcasts_S1x128_S32x128))

/-- The offset that brings the bits of `shifted` to the code's grid. -/
def gridOffset (w : FVec F S32x128 .f32) : IVec S1x128 32 :=
  subi (broadcast S1x128 4186111#32) (shli (scaleWord (blockAmax w)) (broadcast S1x128 23#32))

/-- The code in units of 1/256, with the random byte subtracted. -/
def fineCode (w : FVec F S32x128 .f32) (r : IVec S32x128 16) : IVec S32x128 16 :=
  subi (trunci 16 (shrui (addi (floatBits (shifted w)) (broadcastTo S32x128 (gridOffset w) broadcasts_S1x128_S32x128))
    (broadcast S32x128 14#32)) natLt_16_32) r

/-- Two tokens' codes to a word: the high byte's low half of each. -/
def pairCode (w : FVec F S32x128 .f32) (r : IVec S32x128 16) : IVec S16x128 32 :=
  andi (shrui (bitcast S16x128 32 (fineCode w r) bitcasts_S32x128_w16_S16x128_w32) (broadcast S16x128 8#32))
    (broadcast S16x128 983055#32)

/-- The sign bits of two tokens to a word. -/
def pairSign (w : FVec F S32x128 .f32) : IVec S16x128 32 :=
  andi (shrui (bitcast S16x128 32 (trunci 16 (select (cmpf .olt (truncf .bf16 w bitsLt_bf16_f32)
      (broadcast S32x128 (Scalar.ofBits .bf16 0x0000#16))) (broadcast S32x128 4294934528#32) (broadcast S32x128 0#32))
      natLt_16_32) bitcasts_S32x128_w16_S16x128_w32) (broadcast S16x128 12#32)) (broadcast S16x128 524296#32)

/-- Code 8 brought down to 7. -/
def pairClip (q : IVec S16x128 32) : IVec S16x128 32 :=
  subi q (andi (shrui q (broadcast S16x128 3#32)) (broadcast S16x128 65537#32))

/-- The sign put on the codes that are not zero. -/
def pairSigned (q n : IVec S16x128 32) : IVec S16x128 32 :=
  ori q (andi n (addi q (broadcast S16x128 458759#32)))

/-- Pairs of codes packed to bytes: a word of four bytes with its upper codes moved down by four bits. -/
def packRows (q : IVec S16x128 32) : IVec S16x128 16 :=
  bitcast S16x128 16
    (ori (bitcast S8x128 32 (trunci 8 (bitcast S32x128 16 q bitcasts_S16x128_w32_S32x128_w16) natLt_8_16) bitcasts_S32x128_w8_S8x128_w32)
      (shrui (bitcast S8x128 32 (trunci 8 (bitcast S32x128 16 q bitcasts_S16x128_w32_S32x128_w16) natLt_8_16) bitcasts_S32x128_w8_S8x128_w32)
        (broadcast S8x128 4#32)))
    bitcasts_S8x128_w32_S16x128_w16

/-- A block's codes, two tokens to a byte (the low byte of each half word). -/
def codeRows (w : FVec F S32x128 .f32) (r : IVec S32x128 16) : IVec S16x128 16 :=
  packRows (pairSigned (pairClip (pairCode w r)) (pairSign w))

/-- 128 tokens' random bytes, tokens down. -/
def randTile (rb : Vec F S1x128x128 .i8) : IVec S128x128 16 :=
  transpose S128x128 [1, 0] (extui 16 (shapeCast S128x128 rb shapeCasts_S1x128x128_S128x128) natLt_8_16)
    transposes_S128x128_p1_0_S128x128

/-- A tile's codes from its eight blocks `w` and its two squares of random bytes. -/
def codeTile (w : Fin 8 → FVec F S32x128 .f32) (rb : Fin 2 → Vec F S1x128x128 .i8) : IVec S1x128x128 8 :=
  shapeCast S1x128x128 (trunci 8 (transpose S128x128 [1, 0]
    (concatenate S128x128 0
      [⟨S16x128, codeRows (w 0) (extractStridedSlice S32x128 ![0, 0] (randTile (rb 0)) slices_S128x128_o0_0_S32x128)⟩,
       ⟨S16x128, codeRows (w 1) (extractStridedSlice S32x128 ![32, 0] (randTile (rb 0)) slices_S128x128_o32_0_S32x128)⟩,
       ⟨S16x128, codeRows (w 2) (extractStridedSlice S32x128 ![64, 0] (randTile (rb 0)) slices_S128x128_o64_0_S32x128)⟩,
       ⟨S16x128, codeRows (w 3) (extractStridedSlice S32x128 ![96, 0] (randTile (rb 0)) slices_S128x128_o96_0_S32x128)⟩,
       ⟨S16x128, codeRows (w 4) (extractStridedSlice S32x128 ![0, 0] (randTile (rb 1)) slices_S128x128_o0_0_S32x128)⟩,
       ⟨S16x128, codeRows (w 5) (extractStridedSlice S32x128 ![32, 0] (randTile (rb 1)) slices_S128x128_o32_0_S32x128)⟩,
       ⟨S16x128, codeRows (w 6) (extractStridedSlice S32x128 ![64, 0] (randTile (rb 1)) slices_S128x128_o64_0_S32x128)⟩,
       ⟨S16x128, codeRows (w 7) (extractStridedSlice S32x128 ![96, 0] (randTile (rb 1)) slices_S128x128_o96_0_S32x128)⟩]
      concatenates_S16x128_S16x128_S16x128_S16x128_S16x128_S16x128_S16x128_S16x128_S128x128_d0)
    transposes_S128x128_p1_0_S128x128) natLt_8_16) shapeCasts_S128x128_S1x128x128

/-- A tile's largest magnitudes, one row to a block. -/
def amTile (w : Fin 8 → FVec F S32x128 .f32) : FVec F S8x128 .f32 :=
  shapeCast S8x128 (concatenate S8x128 0
    [⟨S1x128, blockAmax (w 0)⟩, ⟨S1x128, blockAmax (w 1)⟩, ⟨S1x128, blockAmax (w 2)⟩, ⟨S1x128, blockAmax (w 3)⟩,
     ⟨S1x128, blockAmax (w 4)⟩, ⟨S1x128, blockAmax (w 5)⟩, ⟨S1x128, blockAmax (w 6)⟩, ⟨S1x128, blockAmax (w 7)⟩]
    concatenates_S1x128_S1x128_S1x128_S1x128_S1x128_S1x128_S1x128_S1x128_S8x128_d0) shapeCasts_S8x128_S8x128

/-- 256 tokens by 256 channels under the Hadamard matrix. -/
def hadTile (h : Vec F S256x256 .bf16) (x : Vec F S1x256x256 .bf16) : FVec F S256x256 .f32 :=
  shapeCast S256x256 (matmul dot_S256x256_S256x256_S256x256_1_0_0_1_n_n none (shapeCast S256x256 h shapeCasts_S256x256_S256x256 : FVec F S256x256 .bf16)
    (shapeCast S256x256 x shapeCasts_S1x256x256_S256x256 : FVec F S256x256 .bf16) (constant S256x256 .f32 0x00000000#32 : FVec F S256x256 .f32)) shapeCasts_S256x256_S256x256

/-- 128 channels' largest magnitudes, channels down. -/
def amaxOut (am : Vec F S48x128 .f32) : FVec F S1x128x48 .f32 :=
  shapeCast S1x128x48 (transpose S128x48 [1, 0] am transposes_S48x128_p1_0_S128x48 : FVec F S128x48 .f32) shapeCasts_S128x48_S1x128x48

/-- 128 channels' scale bytes, channels down. -/
def scaleOut (am : Vec F S48x128 .f32) : IVec S1x128x48 8 :=
  shapeCast S1x128x48 (trunci 8 (scaleWord (transpose S128x48 [1, 0] am transposes_S48x128_p1_0_S128x48 : FVec F S128x48 .f32)) natLt_8_32)
    shapeCasts_S128x48_S1x128x48

end Cert.KernelIdeal.Body

end
-- ==== Proof.Pieces.lean ====
/-
  What one run of the kernel's body stores, as lists of pieces: the lists that the generated run finds are the maps,
  over the 24 tiles, of the functions of Body.lean at the tile's place. The equations hold by computation.
-/
module

public import proofs.«01_k».proof.Proof.Gen.KernelIdeal.Frame
public import proofs.«01_k».proof.Proof.Body

@[expose] public section

set_option maxRecDepth 16384

noncomputable section

namespace Cert.KernelIdeal.Body

open Idealize.ShloMosaic Cert.KernelIdeal Cert.KernelIdeal.Gen Idealize.ShloMosaic.Tactic

variable {F : FTy → Type} [FloatOps F]

/-- A tile: its half of the channels, its run of 256 tokens, its quarter's parity. -/
structure Tile where
  half : Fin 2
  run : Fin 6
  lane : Fin 2

/-- The tile's first channel. -/
abbrev Tile.chan (T : Tile) : Nat := 256 * T.half.val + 128 * T.lane.val

/-- The tiles, the last stored first. -/
def tiles : List Tile :=
  (List.range 24).reverse.map fun n => ⟨⟨n / 12 % 2, by omega⟩, ⟨n / 2 % 6, by omega⟩, ⟨n % 2, by omega⟩⟩

section
variable (arg2 : Memref sig .tc .vmem S1x1536x512 .bf16) (harg2 : arg2.IsWhole)
  (arg3 : Memref sig .tc .vmem S256x256 .bf16) (harg3 : arg3.IsWhole)
  (arg4 : Memref sig .tc .vmem S1x512x1536 .i8) (harg4 : arg4.IsWhole)
  (arg8 : Memref sig .tc .vmem S256x256 .f32) (arg9 : Memref sig .tc .vmem S48x512 .f32)
  (x0 : Vec F S1x1536x512 .bf16) (x1 : Vec F S256x256 .bf16) (x2 : Vec F S1x512x1536 .i8)

/-- The product stored by step `n` of the twelve (half, run). -/
def hadStore (n : Nat) : View.Piece (Elt F) S256x256 .f32 :=
  ⟨Rect.unit ![0, 0] S256x256.size inb_S256x256_S256x256_0_0,
    hadTile
      (View.readAt (Elt F) arg3.view (Rect.unit ![0, 0] S256x256.size inb_S256x256_S256x256_0_0).toLoadRect (harg3.unread x1))
      (View.readAt (Elt F) arg2.view (Rect.unit (s := S1x1536x512) ![0, 256 * (n % 6), 256 * (n / 6 % 2)] S1x256x256.size
        (by intro a; fin_cases a <;> simp [Shape.size] <;> omega)).toLoadRect (harg2.unread x0))⟩

/-- The products stored up to step `n`, the last first. -/
def hadStores : Nat → List (View.Piece (Elt F) S256x256 .f32)
  | 0 => []
  | n + 1 => hadStore arg2 harg2 arg3 harg3 x0 x1 n :: hadStores n

/-- Block `b` of tile `T`, read back from the product's buffer. -/
def blockLoad (T : Tile) (b : Fin 8) : Vec F S32x128 .f32 :=
  arg8.view.readCov (hadStores arg2 harg2 arg3 harg3 x0 x1 (6 * T.half.val + T.run.val + 1))
    (Rect.unit (s := S256x256) ![32 * b.val, 128 * T.lane.val] S32x128.size
      (by intro a; have := b.isLt; have := T.lane.isLt; fin_cases a <;> simp [Shape.size] <;> omega)).toLoadRect

/-- Half `h` of tile `T`'s random bytes. -/
def randLoad (T : Tile) (h : Fin 2) : Vec F S1x128x128 .i8 :=
  View.readAt (Elt F) arg4.view (Rect.unit (s := S1x512x1536) ![0, T.chan, 256 * T.run.val + 128 * h.val] S1x128x128.size
      (by intro a; have := h.isLt; have := T.half.isLt; have := T.lane.isLt; have := T.run.isLt
          fin_cases a <;> simp [Shape.size, Tile.chan] <;> omega)).toLoadRect
    (harg4.unread x2)

/-- Tile `T`'s codes at their place in the block of codes. -/
def codeStore (T : Tile) : View.Piece (Elt F) S1x512x768 .i8 :=
  ⟨Rect.unit (s := S1x512x768) ![0, T.chan, 128 * T.run.val] S1x128x128.size
      (by intro a; have := T.half.isLt; have := T.lane.isLt; have := T.run.isLt
          fin_cases a <;> simp [Shape.size, Tile.chan] <;> omega),
    codeTile (blockLoad arg2 harg2 arg3 harg3 arg8 x0 x1 T) (randLoad (F := F) arg4 harg4 x2 T)⟩

/-- Tile `T`'s largest magnitudes at their place in their buffer. -/
def amStore (T : Tile) : View.Piece (Elt F) S48x512 .f32 :=
  ⟨Rect.unit (s := S48x512) ![8 * T.run.val, T.chan] S8x128.size
      (by intro a; have := T.half.isLt; have := T.lane.isLt; have := T.run.isLt
          fin_cases a <;> simp [Shape.size, Tile.chan] <;> omega),
    amTile (blockLoad arg2 harg2 arg3 harg3 arg8 x0 x1 T)⟩

/-- Quarter `c` of the channels, read back from the buffer of largest magnitudes. -/
def amLoad (c : Fin 4) : Vec F S48x128 .f32 :=
  arg9.view.readCov (tiles.map (amStore arg2 harg2 arg3 harg3 arg8 x0 x1))
    (Rect.unit (s := S48x512) ![0, 128 * c.val] S48x128.size
      (by intro a; have := c.isLt; fin_cases a <;> simp [Shape.size] <;> omega)).toLoadRect

/-- Quarter `c` of the result of largest magnitudes. -/
def amaxStore (c : Fin 4) : View.Piece (Elt F) S1x512x48 .f32 :=
  ⟨Rect.unit (s := S1x512x48) ![0, 128 * c.val, 0] S1x128x48.size
      (by intro a; have := c.isLt; fin_cases a <;> simp [Shape.size] <;> omega),
    amaxOut (amLoad arg2 harg2 arg3 harg3 arg8 arg9 x0 x1 c)⟩

/-- Quarter `c` of the result of scale bytes. -/
def scaleStore (c : Fin 4) : View.Piece (Elt F) S1x512x48 .i8 :=
  ⟨Rect.unit (s := S1x512x48) ![0, 128 * c.val, 0] S1x128x48.size
      (by intro a; have := c.isLt; fin_cases a <;> simp [Shape.size] <;> omega),
    scaleOut (amLoad arg2 harg2 arg3 harg3 arg8 arg9 x0 x1 c)⟩

end

/-- The quarters, the last stored first. -/
def quarters : List (Fin 4) := [3, 2, 1, 0]

section
variable (c : Dev nD) (i : grid0.Coords) (arg2 : Memref sig .tc .vmem S1x1536x512 .bf16) (harg2 : arg2.IsWhole) (arg3 : Memref sig .tc .vmem S256x256 .bf16) (harg3 : arg3.IsWhole) (arg4 : Memref sig .tc .vmem S1x512x1536 .i8) (harg4 : arg4.IsWhole) (arg5 : Memref sig .tc .vmem S1x512x48 .f32) (harg5 : arg5.IsWhole) (arg6 : Memref sig .tc .vmem S1x512x768 .i8) (harg6 : arg6.IsWhole) (arg7 : Memref sig .tc .vmem S1x512x48 .i8) (harg7 : arg7.IsWhole) (arg8 : Memref sig .tc .vmem S256x256 .f32) (harg8 : arg8.IsWhole) (arg9 : Memref sig .tc .vmem S48x512 .f32) (harg9 : arg9.IsWhole)
    (x0 : Vec F S1x1536x512 .bf16) (x1 : Vec F S256x256 .bf16) (x2 : Vec F S1x512x1536 .i8)

theorem amax_pieces :
    (kernelRun0_A c i arg2 harg2 arg3 harg3 arg4 harg4 arg5 harg5 arg6 harg6 arg7 harg7 arg8 harg8 arg9 harg9 x0 x1 x2).1
      = quarters.map (amaxStore arg2 harg2 arg3 harg3 arg8 arg9 x0 x1) := by
  sl_kernel_rfl

theorem code_pieces :
    (kernelRun0_A c i arg2 harg2 arg3 harg3 arg4 harg4 arg5 harg5 arg6 harg6 arg7 harg7 arg8 harg8 arg9 harg9 x0 x1 x2).2.1
      = tiles.map (codeStore arg2 harg2 arg3 harg3 arg4 harg4 arg8 x0 x1 x2) := by
  sl_kernel_rfl

theorem scale_pieces :
    (kernelRun0_A c i arg2 harg2 arg3 harg3 arg4 harg4 arg5 harg5 arg6 harg6 arg7 harg7 arg8 harg8 arg9 harg9 x0 x1 x2).2.2.1
      = quarters.map (scaleStore arg2 harg2 arg3 harg3 arg8 arg9 x0 x1) := by
  sl_kernel_rfl

end

end Cert.KernelIdeal.Body

end
-- ==== Proof.Power.lean ====
/-
  Floats whose mantissa is zero, and the search for the largest of them below a value.

  `power E` is what the word with exponent field `E` and mantissa zero denotes: zero, a power of two, or infinity. The
  kernel finds the exponent field of a value by eight comparisons, from the highest bit down (`search`); the result is
  the greatest `E` with `power E ≤ v` (`search_spec`).
-/
module

public import Idealize.ShloMosaic.PureOps.Ideal

@[expose] public section

noncomputable section

namespace Cert.KernelIdeal.Power

open Idealize.ShloMosaic

/-- The word with exponent field `E` and mantissa zero. -/
def word (E : ℕ) : BitVec 32 := BitVec.ofNat 32 (E * 2 ^ 23)

/-- What that word denotes. -/
def power (E : ℕ) : EReal := Ideal.ofBits .f32 (word E)

theorem word_fields : ∀ E : Fin 256, (word E).extractLsb' 31 1 = 0#1 ∧ ((word E).extractLsb' 23 8).toNat = E.val
    ∧ ((word E).extractLsb' 0 23).toNat = 0 := by
  decide +kernel

theorem power_zero : power 0 = 0 := by
  obtain ⟨h1, h2, h3⟩ := word_fields 0
  simp only [Fin.val_zero] at h1 h2 h3
  simp [power, Ideal.ofBits, Ideal.ieee, h1, h2, h3]

theorem power_top : power 255 = ⊤ := by
  obtain ⟨h1, h2, h3⟩ := word_fields 255
  have e : ((255 : Fin 256) : ℕ) = 255 := rfl
  rw [e] at h1 h2 h3
  simp [power, Ideal.ofBits, Ideal.ieee, h1, h2, h3]

theorem power_eq {E : ℕ} (h1 : 1 ≤ E) (h2 : E ≤ 254) : power E = (((2 : ℝ) ^ ((E : ℤ) - 127) : ℝ) : EReal) := by
  obtain ⟨f1, f2, f3⟩ := word_fields ⟨E, by omega⟩
  simp only at f1 f2 f3
  simp only [power, Ideal.ofBits, Ideal.ieee, Nat.reduceAdd, f1, f2, f3]
  rw [if_neg (by norm_num; omega), if_neg (by omega)]
  congr 1
  simp only [show ((0#1 : BitVec 1) == 1#1) = false from rfl]
  norm_num
  rw [show (8388608 : ℝ) = 2 ^ (23 : ℤ) by norm_num, ← zpow_add₀ (by norm_num)]
  congr 1; omega

theorem power_lt {E E' : ℕ} (h : E < E') (h' : E' ≤ 255) : power E < power E' := by
  rcases Nat.eq_or_lt_of_le h' with rfl | h'
  · rw [power_top]
    rcases Nat.eq_zero_or_pos E with rfl | h0
    · rw [power_zero]; exact EReal.zero_lt_top
    · rw [power_eq h0 (by omega)]; exact EReal.coe_lt_top _
  · rw [power_eq (E := E') (by omega) (by omega)]
    rcases Nat.eq_zero_or_pos E with rfl | h0
    · rw [power_zero]; exact EReal.coe_pos.mpr (by positivity)
    · rw [power_eq h0 (by omega), EReal.coe_lt_coe_iff]
      exact zpow_lt_zpow_right₀ (by norm_num) (by omega)

theorem power_le {E E' : ℕ} (h : E ≤ E') (h' : E' ≤ 255) : power E ≤ power E' := by
  rcases Nat.eq_or_lt_of_le h with rfl | h
  · exact le_rfl
  · exact (power_lt h h').le

/-- One comparison: raise `e` by `c` where `v` is at least what the raised word denotes. -/
def step (v : EReal) (c e : BitVec 32) : BitVec 32 := if Ideal.ofBits .f32 (e + c) ≤ v then e + c else e

/-- The eight comparisons. -/
def search (v : EReal) : BitVec 32 :=
  step v 8388608#32 (step v 16777216#32 (step v 33554432#32 (step v 67108864#32
    (step v 134217728#32 (step v 268435456#32 (step v 536870912#32 (step v 1073741824#32 0#32)))))))

/-- What is known with `n` bits left: the word found so far is below `v`, the next one with these bits above. -/
def Found (v : EReal) (w : ℕ) (e : BitVec 32) : Prop :=
  ∃ E : ℕ, e = word E ∧ E + w ≤ 256 ∧ power E ≤ v ∧ (E + w ≤ 255 → v < power (E + w))

theorem step_found (v : EReal) (w : ℕ) (hw : 1 ≤ w) (c e : BitVec 32) (hc : c = word w) (h : Found v (w + w) e) :
    Found v w (step v c e) := by
  obtain ⟨E, rfl, h1, h2, h3⟩ := h
  subst hc
  have he : word E + word w = word (E + w) := by
    simp only [word, Nat.add_mul, ← BitVec.ofNat_add]
  rw [step, he]
  split
  · rename_i hle
    exact ⟨E + w, rfl, by omega, hle, by rw [Nat.add_assoc]; exact h3⟩
  · rename_i hle
    exact ⟨E, rfl, by omega, h2, fun _ => not_le.mp hle⟩

theorem search_found (v : EReal) (hv : 0 ≤ v) : Found v 1 (search v) := by
  have h0 : Found v 256 (0#32) := ⟨0, rfl, by omega, by rw [power_zero]; exact hv, fun h => absurd h (by omega)⟩
  have h1 := step_found v 128 (by omega) 1073741824#32 _ (by decide) h0
  have h2 := step_found v 64 (by omega) 536870912#32 _ (by decide) h1
  have h3 := step_found v 32 (by omega) 268435456#32 _ (by decide) h2
  have h4 := step_found v 16 (by omega) 134217728#32 _ (by decide) h3
  have h5 := step_found v 8 (by omega) 67108864#32 _ (by decide) h4
  have h6 := step_found v 4 (by omega) 33554432#32 _ (by decide) h5
  have h7 := step_found v 2 (by omega) 16777216#32 _ (by decide) h6
  exact step_found v 1 (by omega) 8388608#32 _ (by decide) h7

/-- The greatest exponent field at or below `v` is the one found. -/
theorem search_eq (v : EReal) (hv : 0 ≤ v) (E : ℕ) (hE : E ≤ 254) (h1 : power E ≤ v) (h2 : v < power (E + 1)) :
    search v = word E := by
  obtain ⟨E', he, hb, h3, h4⟩ := search_found v hv
  rw [he]
  congr 1
  rcases lt_trichotomy E' E with h | h | h
  · exact absurd (lt_of_lt_of_le (h4 (by omega)) (power_le (by omega : E' + 1 ≤ E) (by omega))) (not_lt.mpr h1)
  · exact h
  · exact absurd (lt_of_lt_of_le h2 (power_le (by omega : E + 1 ≤ E') (by omega))) (not_lt.mpr h3)

/-- The same for the last finite field, which also holds every larger real. -/
theorem search_eq_top (v : EReal) (hv : v ≠ ⊤) (h1 : power 254 ≤ v) : search v = word 254 :=
  search_eq v (le_trans (by rw [← power_zero]; exact power_le (by omega) (by omega)) h1) 254 le_rfl h1
    (by rw [power_top]; exact lt_top_iff_ne_top.mpr hv)

theorem search_zero : search 0 = word 0 :=
  search_eq 0 le_rfl 0 (by omega) (by rw [power_zero]) (by rw [← power_zero]; exact power_lt (by omega) (by omega))

end Cert.KernelIdeal.Power

end
-- ==== Proof.Code.lean ====
/-
  Stochastic rounding to the FP4 grid 0, 1/2, 1, 3/2, 2, 3, 4, 6, as arithmetic on real numbers.

  A scaled magnitude `y` has a place on the grid, `place y`: linear between neighbours and equal to the index at a grid
  point. The code is the floor of the place, plus one where the random byte lies below the fraction (`round`). The
  kernel keeps the place in units of 2^-22, rounded up to an integer, and reads the code off its upper bits (`fine_eq`);
  the reference works with the grid's step, the neighbour below and the fraction (`refIndex_eq`).
-/
module

public import Idealize.ShloMosaic.PureOps.Ideal
public import Mathlib.Tactic.Linarith
public import Mathlib.Tactic.FieldSimp

@[expose] public section

noncomputable section

namespace Cert.KernelIdeal.Code

/-- The place of a magnitude on the grid. -/
def place (y : ℝ) : ℝ := if y < 2 then 2 * y else if y < 4 then y + 2 else y / 2 + 4

/-- The index below, or the one above where the random byte is below the fraction. -/
def round (p : ℝ) (r : ℕ) : ℤ := ⌊p⌋ + if (r : ℝ) + 1 / 2 < Int.fract p * 256 then 1 else 0

/-- Rounding an integer part and a fraction. -/
theorem round_of {p f : ℝ} {n : ℤ} {r : ℕ} (hp : p = n + f) (h0 : 0 ≤ f) (h1 : f < 1) :
    round p r = n + if (r : ℝ) + 1 / 2 < f * 256 then 1 else 0 := by
  have hf : ⌊p⌋ = n := Int.floor_eq_iff.mpr ⟨by linarith, by linarith⟩
  rw [round, Int.fract, hf]
  rw [show p - n = f by linarith]

/-- The kernel's reading: the place in units of 2^-22 rounded up, the random byte taken from the upper bits. -/
theorem fine_eq (p : ℝ) (r : ℕ) (hr : r ≤ 255) (D : ℕ) (hD : (D : ℤ) = ⌈p * 4194304⌉) :
    ((((D + 4186111) / 16384 - r) / 256 : ℕ) : ℤ) = round p r := by
  obtain ⟨n, f, hp, h0, h1⟩ : ∃ (n : ℤ) (f : ℝ), p = n + f ∧ 0 ≤ f ∧ f < 1 :=
    ⟨⌊p⌋, Int.fract p, (Int.floor_add_fract p).symm, Int.fract_nonneg p, Int.fract_lt_one p⟩
  rw [round_of hp h0 h1]
  obtain ⟨e, he⟩ : ∃ e : ℤ, e = ⌈f * 4194304⌉ := ⟨_, rfl⟩
  have hsum : (D : ℤ) = n * 4194304 + e := by
    rw [hD, hp, he, show ((n : ℝ) + f) * 4194304 = f * 4194304 + ((n * 4194304 : ℤ) : ℝ) by push_cast; ring,
      Int.ceil_add_intCast]
    ring
  have e0 : 0 ≤ e := by rw [he]; exact Int.ceil_nonneg (by positivity)
  have e1 : e ≤ 4194304 := by rw [he, Int.ceil_le]; push_cast; linarith
  have hcmp : ((r : ℝ) + 1 / 2 < f * 256) ↔ (r : ℤ) * 16384 + 8192 < e := by
    rw [he, Int.lt_ceil]; push_cast
    constructor <;> intro h <;> linarith
  simp only [hcmp]
  have hrz : (r : ℤ) ≤ 255 := by exact_mod_cast hr
  split_ifs with h <;> omega

/-- The reference's step of the grid at a magnitude. -/
def gridStep (a : ℝ) : ℝ := if a < 2 then 1 / 2 else if a < 4 then 1 else 2

/-- The reference's neighbour below. -/
def below (a : ℝ) : ℝ := (⌊a / gridStep a⌋ : ℝ) * gridStep a

/-- The reference's rounded magnitude. -/
def rounded (a : ℝ) (r : ℕ) : ℝ :=
  below a + gridStep a * (if (r : ℝ) + 1 / 2 < (a - below a) / gridStep a * 256 then 1 else 0)

/-- The reference's index of a magnitude of the grid. -/
def gridIndex (q : ℝ) : ℝ := if q < 2 then 2 * q else if q < 4 then q + 2 else q * (1 / 2) + 4

/-- On the grid's range the reference's index is the rounded place. -/
theorem refIndex_eq (a : ℝ) (r : ℕ) (h0 : 0 ≤ a) (h6 : a ≤ 6) : gridIndex (rounded a r) = (round (place a) r : ℝ) := by
  have key : ∀ s : ℝ, 0 < s → gridStep a = s → ∃ n : ℤ, ∃ f : ℝ, a = (n + f) * s ∧ 0 ≤ f ∧ f < 1 ∧
      rounded a r = (n + if (r : ℝ) + 1 / 2 < f * 256 then 1 else 0) * s := by
    intro s hs hstep
    refine ⟨⌊a / s⌋, Int.fract (a / s), ?_, Int.fract_nonneg _, Int.fract_lt_one _, ?_⟩
    · rw [Int.floor_add_fract]; field_simp
    · have : (a - ⌊a / s⌋ * s) / s = Int.fract (a / s) := by rw [Int.fract]; field_simp
      rw [rounded, below, hstep, this]; ring
  rcases lt_or_ge a 2 with h2 | h2
  · obtain ⟨n, f, ha, hf0, hf1, hq⟩ := key (1 / 2) (by norm_num) (by rw [gridStep, if_pos h2])
    rw [hq, place, if_pos h2, round_of (p := 2 * a) (n := n) (f := f) (by rw [ha]; ring) hf0 hf1]
    have hn : n ≤ 3 := by
      have : (n : ℝ) < 4 := by linarith
      have : n < 4 := by exact_mod_cast this
      omega
    have hnr : (n : ℝ) ≤ 3 := by exact_mod_cast hn
    unfold gridIndex
    split_ifs <;> push_cast <;> linarith
  · rcases lt_or_ge a 4 with h4 | h4
    · obtain ⟨n, f, ha, hf0, hf1, hq⟩ := key 1 (by norm_num) (by rw [gridStep, if_neg (not_lt.mpr h2), if_pos h4])
      rw [hq, place, if_neg (not_lt.mpr h2), if_pos h4, round_of (p := a + 2) (n := n + 2) (f := f) (by rw [ha]; push_cast; ring) hf0 hf1]
      have hn : n ≤ 3 := by
        have : (n : ℝ) < 4 := by linarith
        have : n < 4 := by exact_mod_cast this
        omega
      have hn2 : 2 ≤ n := by
        have : (1 : ℝ) < n := by linarith
        have : 1 < n := by exact_mod_cast this
        omega
      have hnr : (n : ℝ) ≤ 3 := by exact_mod_cast hn
      have hnr2 : (2 : ℝ) ≤ n := by exact_mod_cast hn2
      unfold gridIndex
      split_ifs <;> push_cast <;> linarith
    · obtain ⟨n, f, ha, hf0, hf1, hq⟩ := key 2 (by norm_num)
        (by rw [gridStep, if_neg (not_lt.mpr h2), if_neg (not_lt.mpr h4)])
      rw [hq, place, if_neg (not_lt.mpr h2), if_neg (not_lt.mpr h4),
        round_of (p := a / 2 + 4) (n := n + 4) (f := f) (by rw [ha]; push_cast; ring) hf0 hf1]
      have hn2 : 2 ≤ n := by
        have : (1 : ℝ) < n := by linarith
        have : 1 < n := by exact_mod_cast this
        omega
      have hnr2 : (2 : ℝ) ≤ n := by exact_mod_cast hn2
      unfold gridIndex
      split_ifs <;> push_cast <;> linarith

/-- A clipped code: eight becomes seven. -/
def clip7 (q : ℕ) : ℕ := q - q / 8

/-- The kernel clips the code where the reference clips the magnitude. -/
theorem clip_round (y : ℝ) (r q : ℕ) (hr : r ≤ 255) (h0 : 0 ≤ y) (h8 : y < 8) (hq : (q : ℤ) = round (place y) r) :
    ((clip7 q : ℕ) : ℤ) = round (place (min y 6)) r ∧ q ≤ 8 := by
  have hrr : (0 : ℝ) ≤ r := Nat.cast_nonneg r
  have fl : ∀ p : ℝ, 0 ≤ Int.fract p ∧ Int.fract p < 1 ∧ p = ⌊p⌋ + Int.fract p := fun p =>
    ⟨Int.fract_nonneg p, Int.fract_lt_one p, (Int.floor_add_fract p).symm⟩
  rcases le_or_gt y 6 with h6 | h6
  · rw [min_eq_left h6]
    have hp : place y ≤ 7 := by unfold place; split_ifs <;> linarith
    have hp0 : 0 ≤ place y := by unfold place; split_ifs <;> linarith
    have hle : round (place y) r ≤ 7 := by
      rcases eq_or_lt_of_le hp with h | h
      · rw [h, round_of (n := 7) (f := 0) (by norm_num) le_rfl (by norm_num), if_neg (by linarith)]; norm_num
      · have : ⌊place y⌋ < 7 := Int.floor_lt.mpr (by exact_mod_cast h)
        unfold round; split_ifs <;> omega
    have h7 : q ≤ 7 := by omega
    rw [← hq, clip7, Nat.div_eq_of_lt (by omega)]
    exact ⟨by simp, by omega⟩
  · rw [min_eq_right h6.le]
    have e7 : round (place 6) r = 7 := by
      rw [show place 6 = 7 by unfold place; norm_num, round_of (n := 7) (f := 0) (by norm_num) le_rfl (by norm_num),
        if_neg (by linarith)]; norm_num
    have hp : place y = y / 2 + 4 := by unfold place; rw [if_neg (by linarith), if_neg (by linarith)]
    have hfl : ⌊place y⌋ = 7 := by rw [hp, Int.floor_eq_iff]; constructor <;> push_cast <;> linarith
    have h78 : q = 7 ∨ q = 8 := by
      unfold round at hq; rw [hfl] at hq; split_ifs at hq <;> omega
    rw [e7]
    rcases h78 with rfl | rfl <;> decide

end Cert.KernelIdeal.Code

end
-- ==== Proof.Encode.lean ====
/-
  One element's code as the kernel computes it from words, and its value.

  `scaleOf` is a block's scale word; `bitsOf` the word of a real above a power of two; `fine` the code in units of 1/256
  less the random byte. For a magnitude `a` and a scale `t = 2^(B - 127)` with `a < 8 t`, the kernel's `a + max a t` lies
  in [t, 16 t) and its word, less the scale's, is the place of `a / t` on the grid in units of 2^-22, rounded up
  (`bits_eq`); so the bits of `fine` hold the rounded code (`fine_code`). The two ends of the scale's range hold too:
  the word of scale 0 denotes zero, not 2^-127, and what lies below 2^-126 has no exponent to find, which leaves the same
  place (`bitsOf_least`); scale 252 is good for `a` up to 4 t, where `a + max a t` reaches 2^128, one past the last word.
-/
module

public import proofs.«01_k».proof.Proof.Power
public import proofs.«01_k».proof.Proof.Code
public import Idealize.ShloMosaic.PureOps

@[expose] public section

noncomputable section

namespace Cert.KernelIdeal.Encode

open Idealize.ShloMosaic Cert.KernelIdeal.Power Cert.KernelIdeal.Code

/-- The scale word from the word of the power of two below the largest magnitude. -/
def scaleOf (e : BitVec 32) (amax : EReal) : BitVec 32 :=
  if 0 < amax then IntOp.subi (IntOp.shrui ArithUnit.vector e 23#32) 2#32 else 127#32

/-- The word of `v` from the word of the power of two below it. -/
def bitsOf (e : BitVec 32) (v : EReal) : BitVec 32 :=
  IntOp.addi e (Ideal.fptosi 32 (Ideal.liftRound Int.ceil
    (Ideal.div (v - Ideal.ofBits FTy.f32 e) (Ideal.ofBits FTy.f32 (IntOp.maxsi e 8388608#32)) *
      Ideal.ofBits FTy.f32 1258291200#32)))

/-- The magnitude plus the larger of itself and the scale with word `b`. -/
def shift (a : EReal) (b : BitVec 32) : EReal :=
  a + max a (Ideal.ofBits FTy.f32 (IntOp.shli ArithUnit.vector b 23#32))

/-- The code in units of 1/256 with the random byte subtracted. -/
def fine (a : EReal) (b : BitVec 32) (r : BitVec 16) : BitVec 16 :=
  IntOp.subi
    (BitVec.setWidth 16 (IntOp.shrui ArithUnit.vector
      (IntOp.addi (bitsOf (search (shift a b)) (shift a b)) (IntOp.subi 4186111#32 (IntOp.shli ArithUnit.vector b 23#32))) 14#32)) r

theorem shl_byte : ∀ B : Fin 256, IntOp.shli ArithUnit.vector (BitVec.ofNat 32 B.val) 23#32 = word B.val := by
  decide +kernel

theorem shr_word : ∀ E : Fin 256, IntOp.subi (IntOp.shrui ArithUnit.vector (word E.val) 23#32) 2#32
    = BitVec.ofInt 32 ((E.val : ℤ) - 2) := by
  decide +kernel

theorem max_word : ∀ E : Fin 256, 1 ≤ E.val → IntOp.maxsi (word E.val) 8388608#32 = word E.val := by
  decide +kernel

/-- The scale word of a positive magnitude between two powers. -/
theorem scaleOf_pos {A : EReal} {E : ℕ} (hE : E ≤ 254) (h0 : 0 < A) (h1 : power E ≤ A) (h2 : A < power (E + 1)) :
    scaleOf (search A) A = BitVec.ofInt 32 ((E : ℤ) - 2) := by
  rw [scaleOf, if_pos h0, search_eq A h0.le E hE h1 h2]
  exact shr_word ⟨E, by omega⟩

theorem scaleOf_zero (e : BitVec 32) : scaleOf e 0 = 127#32 := by
  rw [scaleOf, if_neg (lt_irrefl _)]

/-- The rounded-up number of units, as a word. -/
theorem fptosi_nat (x : ℝ) (c : ℕ) (hc : (c : ℤ) = ⌈x⌉) (hb : c ≤ 8388608) :
    Ideal.fptosi 32 (Ideal.liftRound Int.ceil (x : EReal)) = BitVec.ofNat 32 c := by
  have e : Ideal.liftRound Int.ceil (x : EReal) = ((c : ℝ) : EReal) := by
    show (((⌈x⌉ : ℤ) : ℝ) : EReal) = _
    rw [← hc]; norm_cast
  rw [e, Ideal.fptosi, Ideal.toIntClamped_coe, if_pos (Nat.cast_nonneg c), Int.floor_natCast,
    min_eq_right (by omega), max_eq_right (by omega)]
  exact BitVec.ofInt_natCast 32 c

theorem word_add (B k c : ℕ) : word (B + k) + BitVec.ofNat 32 c = word B + BitVec.ofNat 32 (k * 8388608 + c) := by
  unfold word
  rw [← BitVec.ofNat_add, ← BitVec.ofNat_add]
  exact congrArg (BitVec.ofNat 32) (by omega)

/-- The word of a real above the scale, brought to the grid. -/
theorem word_offset (w : BitVec 32) (D : ℕ) :
    IntOp.addi (w + BitVec.ofNat 32 D) (IntOp.subi 4186111#32 w) = BitVec.ofNat 32 (D + 4186111) := by
  rw [IntOp.addi, IntOp.subi, BitVec.ofNat_add]
  generalize BitVec.ofNat 32 D = d
  generalize (4186111#32 : BitVec 32) = k
  apply BitVec.eq_of_toNat_eq
  have := w.isLt; have := d.isLt; have := k.isLt
  rw [BitVec.toNat_add, BitVec.toNat_add, BitVec.toNat_sub, BitVec.toNat_add]
  omega

/-- Its upper bits less the random byte. -/
theorem fine_toNat (D : ℕ) (hb : D ≤ 33554432) (r : BitVec 8) :
    (IntOp.subi (BitVec.setWidth 16 (IntOp.shrui ArithUnit.vector (BitVec.ofNat 32 (D + 4186111)) 14#32))
      (r.setWidth 16)).toNat = (D + 4186111) / 16384 - r.toNat := by
  have hr := r.isLt
  obtain ⟨x, hx⟩ : ∃ x : ℕ, x = D + 4186111 := ⟨_, rfl⟩
  have h1 : 4186111 ≤ x := by omega
  have h2 : x < 4294967296 := by omega
  have h3 : x / 16384 < 65536 := by omega
  rw [← hx]
  have hs : (IntOp.shrui ArithUnit.vector (BitVec.ofNat 32 x) 14#32).toNat = x / 16384 := by
    rw [IntOp.shrui, if_pos (by decide), BitVec.ushiftRight_eq', BitVec.toNat_ushiftRight, BitVec.toNat_ofNat,
      Nat.shiftRight_eq_div_pow, Nat.mod_eq_of_lt (by omega), show (14#32 : BitVec 32).toNat = 14 from rfl]
  rw [IntOp.subi, BitVec.toNat_sub, BitVec.toNat_setWidth, BitVec.toNat_setWidth, hs]
  omega

theorem unit_23 : Ideal.ofBits FTy.f32 1258291200#32 = ((8388608 : ℝ) : EReal) := by
  have : (1258291200#32 : BitVec 32) = word 150 := by decide
  rw [this]
  refine (power_eq (E := 150) (by omega) (by omega)).trans ?_
  norm_num

/-- A real below the least power: its word is its distance from zero in units of 2^-23 of that power. -/
theorem bitsOf_least (m : ℝ) (hm0 : 0 ≤ m) (hm1 : m < 1) (z : ℝ) (hz : z = m * (2 : ℝ) ^ (-126 : ℤ)) (c : ℕ)
    (hc : (c : ℤ) = ⌈m * 8388608⌉) : bitsOf (search (z : EReal)) (z : EReal) = word 0 + BitVec.ofNat 32 c := by
  have hp : (0 : ℝ) < (2 : ℝ) ^ (-126 : ℤ) := by positivity
  have h1 : power 1 = (((2 : ℝ) ^ (-126 : ℤ) : ℝ) : EReal) := power_eq (E := 1) (by omega) (by omega)
  have hz0 : (0 : EReal) ≤ (z : EReal) := EReal.coe_nonneg.mpr (by rw [hz]; positivity)
  have hs : search (z : EReal) = word 0 := by
    refine search_eq _ hz0 0 (by omega) (by rw [power_zero]; exact hz0) ?_
    rw [h1, EReal.coe_lt_coe_iff, hz]; nlinarith
  have h0 : Ideal.ofBits FTy.f32 (word 0) = 0 := power_zero
  have hq : Ideal.ofBits FTy.f32 (IntOp.maxsi (word 0) 8388608#32) = (((2 : ℝ) ^ (-126 : ℤ) : ℝ) : EReal) := by
    rw [show IntOp.maxsi (word 0) 8388608#32 = word 1 by decide]; exact h1
  rw [bitsOf, hs, h0, hq, unit_23, sub_zero, Ideal.div_coe hp.ne', ← EReal.coe_mul, ← EReal.coe_mul]
  have e : z * (1 / (2 : ℝ) ^ (-126 : ℤ)) * 8388608 = m * 8388608 := by rw [hz]; field_simp
  rw [e, fptosi_nat _ c hc (by
    have : ⌈m * 8388608⌉ ≤ 8388608 := by rw [Int.ceil_le]; push_cast; linarith
    omega)]
  rfl

/-- A real between a power of two and twice that (twice the last power included), with its distance in units of 2^-23
    of the power. -/
theorem bitsOf_eq {E : ℕ} (h1 : 1 ≤ E) (h2 : E ≤ 254) (m : ℝ) (hm0 : 0 ≤ m) (hm1 : m < 1 ∨ (E = 254 ∧ m ≤ 1)) (z : ℝ)
    (hz : z = (1 + m) * (2 : ℝ) ^ ((E : ℤ) - 127)) (c : ℕ) (hc : (c : ℤ) = ⌈m * 8388608⌉) :
    bitsOf (search (z : EReal)) (z : EReal) = word E + BitVec.ofNat 32 c := by
  have hp : (0 : ℝ) < (2 : ℝ) ^ ((E : ℤ) - 127) := by positivity
  have hs : search (z : EReal) = word E := by
    refine search_eq _ (EReal.coe_nonneg.mpr (by rw [hz]; positivity)) E h2 ?_ ?_
    · rw [power_eq h1 h2, EReal.coe_le_coe_iff, hz]; nlinarith
    · rcases Nat.eq_or_lt_of_le h2 with rfl | h2
      · rw [power_top]; exact EReal.coe_lt_top _
      · have hm1 : m < 1 := hm1.resolve_right (by omega)
        rw [power_eq (by omega) (by omega), EReal.coe_lt_coe_iff, hz,
          show ((E + 1 : ℕ) : ℤ) - 127 = ((E : ℤ) - 127) + 1 by push_cast; ring, zpow_add_one₀ (by norm_num)]
        nlinarith
  have hle : m ≤ 1 := hm1.elim le_of_lt And.right
  have hq : Ideal.ofBits FTy.f32 (word E) = (((2 : ℝ) ^ ((E : ℤ) - 127) : ℝ) : EReal) := power_eq h1 h2
  rw [bitsOf, hs, max_word ⟨E, by omega⟩ h1, hq, unit_23, Ideal.div_coe hp.ne', ← EReal.coe_sub, ← EReal.coe_mul, ← EReal.coe_mul]
  have e : (z - (2 : ℝ) ^ ((E : ℤ) - 127)) * (1 / (2 : ℝ) ^ ((E : ℤ) - 127)) * 8388608 = m * 8388608 := by
    rw [hz]; field_simp; ring
  rw [e, fptosi_nat _ c hc (by
    have : ⌈m * 8388608⌉ ≤ 8388608 := by rw [Int.ceil_le]; push_cast; linarith
    omega)]
  rfl

/-- The word of `a + max a t` less the scale's is the place of `a / t` in units of 2^-22, rounded up. -/
theorem bits_eq {B : ℕ} (hB : B ≤ 252) (a y : ℝ) (h0 : 0 ≤ y) (h8 : y < 8) (h4 : B = 252 → y ≤ 4)
    (ha : a = y * (2 : ℝ) ^ ((B : ℤ) - 127)) :
    ∃ D : ℕ, (D : ℤ) = ⌈place y * 4194304⌉ ∧ D ≤ 33554432 ∧
      bitsOf (search (shift a (BitVec.ofNat 32 B))) (shift a (BitVec.ofNat 32 B)) = word B + BitVec.ofNat 32 D := by
  have ht : (0 : ℝ) < (2 : ℝ) ^ ((B : ℤ) - 127) := by positivity
  set t : ℝ := (2 : ℝ) ^ ((B : ℤ) - 127) with htdef
  -- the power `k` steps above the scale, and the fraction above it
  have key : ∀ (k : ℕ) (m z : ℝ), k ≤ 3 → 1 ≤ B + k → B + k ≤ 254 → 0 ≤ m → (m < 1 ∨ (B + k = 254 ∧ m ≤ 1)) →
      shift a (BitVec.ofNat 32 B) = (z : EReal) → z = (1 + m) * (2 : ℝ) ^ k * t →
      place y = 2 * ((k : ℝ) + m) → ∃ D : ℕ, (D : ℤ) = ⌈place y * 4194304⌉ ∧ D ≤ 33554432 ∧
      bitsOf (search (shift a (BitVec.ofNat 32 B))) (shift a (BitVec.ofNat 32 B)) = word B + BitVec.ofNat 32 D := by
    intro k m z hk hl hu hm0 hm1 hsh hz hpl
    have hle : m ≤ 1 := hm1.elim le_of_lt And.right
    obtain ⟨c, hc⟩ : ∃ c : ℕ, (c : ℤ) = ⌈m * 8388608⌉ :=
      Int.eq_ofNat_of_zero_le (Int.ceil_nonneg (by positivity)) |>.imp fun _ h => h.symm
    have hcb : (c : ℤ) ≤ 8388608 := by rw [hc, Int.ceil_le]; push_cast; linarith
    refine ⟨k * 8388608 + c, ?_, by omega, ?_⟩
    · rw [hpl, show 2 * ((k : ℝ) + m) * 4194304 = m * 8388608 + ((k * 8388608 : ℤ) : ℝ) by push_cast; ring,
        Int.ceil_add_intCast, ← hc]
      push_cast; ring
    · rw [hsh, bitsOf_eq (E := B + k) hl hu m hm0 hm1 _ (by
        rw [hz, htdef, mul_assoc, ← zpow_natCast, ← zpow_add₀ (by norm_num)]
        congr 2; push_cast; ring) c hc]
      exact word_add B k c
  have ha0 : 0 ≤ a := by rw [ha]; positivity
  have hsh : shift a (BitVec.ofNat 32 B) = (a : EReal) + max (a : EReal) (power B) := by
    rw [shift, shl_byte ⟨B, by omega⟩]; rfl
  rcases lt_or_ge y 1 with y1 | y1
  · rcases Nat.eq_zero_or_pos B with rfl | hB1
    · -- the least scale: nothing to find below 2^-126
      obtain ⟨c, hc⟩ : ∃ c : ℕ, (c : ℤ) = ⌈y * 8388608⌉ :=
        Int.eq_ofNat_of_zero_le (Int.ceil_nonneg (by positivity)) |>.imp fun _ h => h.symm
      have hcb : (c : ℤ) ≤ 8388608 := by rw [hc, Int.ceil_le]; push_cast; linarith
      refine ⟨c, ?_, by omega, ?_⟩
      · rw [hc]; congr 1; unfold place; rw [if_pos (by linarith)]; ring
      · rw [hsh, power_zero, max_eq_left (EReal.coe_nonneg.mpr ha0), ← EReal.coe_add]
        exact bitsOf_least y h0 y1 _ (by
          rw [ha, htdef, show (-126 : ℤ) = (((0 : ℕ) : ℤ) - 127) + 1 by norm_num, zpow_add_one₀ (by norm_num)]; ring) c hc
    · refine key 0 y (a + t) (by omega) (by omega) (by omega) h0 (.inl y1) ?_ (by rw [ha]; ring)
        (by unfold place; rw [if_pos (by linarith)]; push_cast; ring)
      rw [hsh, power_eq hB1 (by omega), ← htdef, max_eq_right (EReal.coe_le_coe_iff.mpr (by rw [ha]; nlinarith)), EReal.coe_add]
  · have hmax : shift a (BitVec.ofNat 32 B) = ((2 * y * t : ℝ) : EReal) := by
      have hle : power B ≤ (a : EReal) := by
        rcases Nat.eq_zero_or_pos B with rfl | hB1
        · rw [power_zero]; exact EReal.coe_nonneg.mpr ha0
        · rw [power_eq hB1 (by omega), ← htdef]; exact EReal.coe_le_coe_iff.mpr (by rw [ha]; nlinarith)
      rw [hsh, max_eq_left hle, ← EReal.coe_add, ha]
      congr 1; ring
    rcases lt_or_ge y 2 with y2 | y2
    · exact key 1 (y - 1) _ (by omega) (by omega) (by omega) (by linarith) (.inl (by linarith)) hmax (by ring)
        (by unfold place; rw [if_pos y2]; push_cast; ring)
    · rcases lt_or_ge y 4 with y4 | y4
      · exact key 2 (y / 2 - 1) _ (by omega) (by omega) (by omega) (by linarith) (.inl (by linarith)) hmax (by ring)
          (by unfold place; rw [if_neg (by linarith), if_pos y4]; push_cast; ring)
      · rcases Nat.lt_or_ge B 252 with hB' | hB'
        · exact key 3 (y / 4 - 1) _ (by omega) (by omega) (by omega) (by linarith) (.inl (by linarith)) hmax (by ring)
            (by unfold place; rw [if_neg (by linarith), if_neg (by linarith)]; push_cast; ring)
        · -- the greatest scale: twice the last power of two
          have hy : y = 4 := le_antisymm (h4 (by omega)) y4
          exact key 2 (y / 2 - 1) _ (by omega) (by omega) (by omega) (by linarith) (.inr ⟨by omega, by linarith⟩) hmax (by ring)
            (by unfold place; rw [if_neg (by linarith), if_neg (by linarith), hy]; push_cast; ring)

/-- The bits of `fine` above the lowest eight hold the rounded code. -/
theorem fine_code {B : ℕ} (hB : B ≤ 252) (a y : ℝ) (h0 : 0 ≤ y) (h8 : y < 8) (h4 : B = 252 → y ≤ 4)
    (ha : a = y * (2 : ℝ) ^ ((B : ℤ) - 127)) (r : BitVec 8) :
    (((fine a (BitVec.ofNat 32 B) (r.setWidth 16)).toNat / 256 : ℕ) : ℤ) = round (place y) r.toNat := by
  obtain ⟨D, hD, hb, he⟩ := bits_eq hB a y h0 h8 h4 ha
  rw [← fine_eq (place y) r.toNat (by have := r.isLt; omega) D hD, fine, he, shl_byte ⟨B, by omega⟩, word_offset,
    fine_toNat D hb]

end Cert.KernelIdeal.Encode

end
-- ==== Proof.Pack.lean ====
/-
  The kernel's packing of two codes into a byte, as arithmetic on words.

  A word holds two tokens' half words. Bits 8 to 11 of each half are the token's code (0 to 8), bit 15 of each half of the
  other word its sign. The kernel clips code 8 to 7, puts the sign on the codes that are not zero, and moves the second
  code next to the first.
-/
module

public import proofs.«01_k».proof.Proof.Code
public import Idealize.ShloMosaic.PureOps
public import Mathlib.Tactic.IntervalCases

@[expose] public section

noncomputable section

namespace Cert.KernelIdeal.Pack

open Idealize.ShloMosaic Cert.KernelIdeal.Code

/-- The four bits of a code `q` and a sign: clipped to 7, and 8 added to a negative code that is not zero. -/
def nibble (q : ℕ) (neg : Bool) : ℕ := if neg ∧ 0 < clip7 q then clip7 q + 8 else clip7 q

/-- Code 8 brought down to 7, in both halves. -/
def clipW (q : BitVec 32) : BitVec 32 :=
  IntOp.subi q (IntOp.andi (IntOp.shrui ArithUnit.vector q 3#32) 65537#32)

/-- The sign put on the codes that are not zero, in both halves. -/
def signW (q n : BitVec 32) : BitVec 32 := IntOp.ori q (IntOp.andi n (IntOp.addi q 458759#32))

/-- The low byte after the second code is moved next to the first. -/
def byteOf (x : BitVec 32) : BitVec 8 :=
  x.setWidth 8 ||| (x.setWidth 8 >>> 4) ||| ((x >>> 16).setWidth 8 <<< 4)

theorem pack_word : ∀ q0 q1 : Fin 9, ∀ s0 s1 : Bool,
    byteOf (signW (clipW (BitVec.ofNat 32 (q0.val + 65536 * q1.val)))
      (BitVec.ofNat 32 ((if s0 then 8 else 0) + 65536 * (if s1 then 8 else 0))))
    = BitVec.ofNat 8 (nibble q0.val s0 + 16 * nibble q1.val s1) := by
  decide +kernel

/-- Bits 8 to 11 of the two halves. -/
theorem code_bits (lo hi : BitVec 16) (h0 : lo.toNat / 256 ≤ 8) (h1 : hi.toNat / 256 ≤ 8) :
    IntOp.andi (IntOp.shrui ArithUnit.vector (hi ++ lo) 8#32) 983055#32
      = BitVec.ofNat 32 (lo.toNat / 256 + 65536 * (hi.toNat / 256)) := by
  have hl := lo.isLt; have hh := hi.isLt
  have e : IntOp.andi (IntOp.shrui ArithUnit.vector (hi ++ lo) 8#32) 983055#32
      = ((hi >>> 8) &&& 15#16) ++ ((lo >>> 8) &&& 15#16) := by
    rw [IntOp.andi, IntOp.shrui, if_pos (by decide), BitVec.ushiftRight_eq']
    apply BitVec.eq_of_getLsbD_eq
    intro i hi'
    have hi2 : i < 32 := hi'
    simp only [BitVec.getLsbD_and, BitVec.getLsbD_ushiftRight, BitVec.getLsbD_append, show (8#32 : BitVec 32).toNat = 8 from rfl]
    interval_cases i <;> simp
  have ml : ∀ x : BitVec 16, x.toNat / 256 ≤ 8 → ((x >>> 8) &&& 15#16).toNat = x.toNat / 256 := by
    intro x hx
    rw [BitVec.toNat_and, BitVec.toNat_ushiftRight, Nat.shiftRight_eq_div_pow,
      show (15#16 : BitVec 16).toNat = 2 ^ 4 - 1 from rfl, Nat.and_two_pow_sub_one_eq_mod]
    omega
  rw [e]
  apply BitVec.eq_of_toNat_eq
  rw [BitVec.toNat_append, ml lo h0, ml hi h1, BitVec.toNat_ofNat, Nat.mod_eq_of_lt (by omega),
    ← Nat.shiftLeft_add_eq_or_of_lt (show lo.toNat / 256 < 2 ^ 16 by omega), Nat.shiftLeft_eq]
  omega

/-- Bit 15 of the two halves. -/
theorem sign_bits (s0 s1 : Bool) :
    IntOp.andi (IntOp.shrui ArithUnit.vector
        (BitVec.setWidth 16 (if s1 then 4294934528#32 else 0#32) ++ BitVec.setWidth 16 (if s0 then 4294934528#32 else 0#32) : BitVec 32) 12#32) 524296#32
      = BitVec.ofNat 32 ((if s0 then 8 else 0) + 65536 * (if s1 then 8 else 0)) := by
  revert s0 s1; decide +kernel

end Cert.KernelIdeal.Pack

end
-- ==== Proof.SearchAt.lean ====
/-
  The kernel's float words at an index, over extended reals: a block's largest magnitude is the maximum down its column, its
  scale word and its elements' words are the functions of Encode.lean.
-/
module

public import proofs.«01_k».proof.Proof.Body
public import proofs.«01_k».proof.Proof.Encode
public import proofs.«01_k».proof.Proof.Pack
public import Idealize.ShloMosaic.Lib.Pointwise
public import Idealize.ShloMosaic.Lib.Pipeline.ValueKit

@[expose] public section

set_option maxRecDepth 16384

noncomputable section

namespace Cert.KernelIdeal.Body

open Idealize.ShloMosaic Cert.KernelIdeal Cert.KernelIdeal.Gen Idealize.ShloMosaic.Tactic
open Cert.KernelIdeal.Power Cert.KernelIdeal.Encode Cert.KernelIdeal.Pack

/-- The largest magnitude of 32 elements. -/
def largest (f : Fin 32 → EReal) : EReal :=
  Finset.fold max (Ideal.ofBits FTy.f32 4286578688#32) (fun t => max (f t) (-(f t))) Finset.univ

/-- The scale word of a block of 32 elements. -/
def scaleAt (f : Fin 32 → EReal) : BitVec 32 := scaleOf (search (largest f)) (largest f)

/-- The sign's half word. -/
def signAt (w : EReal) : BitVec 16 := BitVec.setWidth 16 (if w < 0 then 4294934528#32 else 0#32)

/-- The byte of two tokens' codes. -/
def byteAt (b : BitVec 32) (w0 w1 : EReal) (r0 r1 : BitVec 16) : BitVec 8 :=
  byteOf (signW (clipW (IntOp.andi (IntOp.shrui ArithUnit.vector
      (fine (max w1 (-w1)) b r1 ++ fine (max w0 (-w0)) b r0 : BitVec 32) 8#32) 983055#32))
    (IntOp.andi (IntOp.shrui ArithUnit.vector (signAt w1 ++ signAt w0 : BitVec 32) 12#32) 524296#32))

section
variable {s : Shape}

theorem expStep_at (v : FVec Ideal s .f32) (c : BitVec 32) (e : IVec s 32) (i : s.Idx) :
    expStep v c e i = step (v i) c (e i) := by
  pointwise [expStep]
  rfl

theorem expStep_of (v : FVec Ideal s .f32) (c : BitVec 32) (e : IVec s 32) (i : s.Idx) (x : BitVec 32) (h : e i = x) :
    expStep v c e i = step (v i) c x := by
  rw [expStep_at, h]

theorem expBits_at (v : FVec Ideal s .f32) (i : s.Idx) : expBits v i = search (v i) := by
  unfold expBits search
  refine expStep_of v _ _ i _ ?_
  refine expStep_of v _ _ i _ ?_
  refine expStep_of v _ _ i _ ?_
  refine expStep_of v _ _ i _ ?_
  refine expStep_of v _ _ i _ ?_
  refine expStep_of v _ _ i _ ?_
  refine expStep_of v _ _ i _ ?_
  refine expStep_of v _ _ i _ ?_
  rfl

theorem floatBitsOf_at (e : IVec s 32) (v : FVec Ideal s .f32) (i : s.Idx) : floatBitsOf e v i = bitsOf (e i) (v i) := by
  pointwise [floatBitsOf]
  rfl

theorem floatBits_at (v : FVec Ideal s .f32) (i : s.Idx) : floatBits v i = bitsOf (search (v i)) (v i) :=
  (floatBitsOf_at (expBits v) v i).trans (congrArg (fun e => bitsOf e (v i)) (expBits_at v i))

theorem scaleWordOf_at (e : IVec s 32) (v : FVec Ideal s .f32) (i : s.Idx) : scaleWordOf e v i = scaleOf (e i) (v i) := by
  pointwise [scaleWordOf]
  rfl

theorem scaleWord_at (v : FVec Ideal s .f32) (i : s.Idx) : scaleWord v i = scaleOf (search (v i)) (v i) :=
  (scaleWordOf_at (expBits v) v i).trans (congrArg (fun e => scaleOf e (v i)) (expBits_at v i))

end

theorem blockAmax_at (w : FVec Ideal S32x128 .f32) (i : Fin 1) (c : Fin 128) :
    blockAmax w (ix2 i c) = largest fun t => w (ix2 t c) := by
  pointwise [blockAmax]
  rfl

theorem scaleBlock_at (w : FVec Ideal S32x128 .f32) (i : Fin 1) (c : Fin 128) :
    scaleWord (blockAmax w) (ix2 i c) = scaleAt fun t => w (ix2 t c) := by
  rw [scaleWord_at, blockAmax_at]; rfl

theorem shifted_at (w : FVec Ideal S32x128 .f32) (t : Fin 32) (c : Fin 128) :
    shifted w (ix2 t c) = shift (max (w (ix2 t c)) (-(w (ix2 t c)))) (scaleAt fun t => w (ix2 t c)) := by
  rw [← scaleBlock_at w 0 c, shifted]
  generalize scaleWord (blockAmax w) = b
  pointwise
  rfl

theorem fineCode_at (w : FVec Ideal S32x128 .f32) (r : IVec S32x128 16) (t : Fin 32) (c : Fin 128) :
    fineCode w r (ix2 t c) = fine (max (w (ix2 t c)) (-(w (ix2 t c)))) (scaleAt fun t => w (ix2 t c)) (r (ix2 t c)) := by
  rw [fine, ← shifted_at, ← floatBits_at, ← scaleBlock_at w 0 c, fineCode, gridOffset]
  generalize scaleWord (blockAmax w) = b
  generalize floatBits (shifted w) = z
  pointwise

end Cert.KernelIdeal.Body

end
-- ==== Proof.PairAt.lean ====
/-
  The kernel's reinterpretations of half words and bytes at an index: two tokens' half words in a word, and the packing of
  two codes to a byte (`packRows_low`); the rows of the eight blocks of a tile.
-/
module

public import proofs.«01_k».proof.Proof.Body
public import proofs.«01_k».proof.Proof.Pack
public import Idealize.ShloMosaic.Lib.Pointwise
public import Idealize.ShloMosaic.Lib.Pipeline.ValueKit
public import Idealize.ShloMosaic.Lib.BitcastPair
public import Idealize.ShloMosaic.Lib.BitcastFour

@[expose] public section

set_option maxRecDepth 16384

noncomputable section

namespace Cert.KernelIdeal.Body

open Idealize.ShloMosaic Cert.KernelIdeal Cert.KernelIdeal.Gen Idealize.ShloMosaic.Tactic
open Cert.KernelIdeal.Pack

theorem pair_at (x : IVec S32x128 16) (m : Fin 16) (c : Fin 128) :
    bitcast S16x128 32 x bitcasts_S32x128_w16_S16x128_w32 (ix2 m c)
      = x (ix2 ⟨2 * m.val + 1, by omega⟩ c) ++ x (ix2 ⟨2 * m.val, by omega⟩ c) := by
  have key : ∀ p hp, Shape.Bitcasts.srcIdx bitcasts_S32x128_w16_S16x128_w32 (ix2 m c : S16x128.Idx) p hp = ix2 ⟨p, hp 0 rfl⟩ c := by
    intro p hp
    funext a
    fin_cases a <;> rfl
  rw [bitcast_16_32, key, key]
  rfl

/-- A word of half words read as half words. -/
theorem half_at (q : IVec S16x128 32) (p : Fin 32) (c : Fin 128) :
    bitcast S32x128 16 q bitcasts_S16x128_w32_S32x128_w16 (ix2 p c)
      = (q (ix2 ⟨p.val / 2, by omega⟩ c)).extractLsb' (16 * (p.val % 2)) 16 := by
  have key : ∀ p' hp, Shape.Bitcasts.srcIdx bitcasts_S16x128_w32_S32x128_w16 (ix2 p c : S32x128.Idx) p' hp = ix2 ⟨p', hp 0 rfl⟩ c := by
    intro p hp
    funext a
    fin_cases a <;> rfl
  rw [bitcast_32_16, key]
  rfl

theorem half_at' (q : IVec S8x128 32) (p : Fin 16) (c : Fin 128) :
    bitcast S16x128 16 q bitcasts_S8x128_w32_S16x128_w16 (ix2 p c)
      = (q (ix2 ⟨p.val / 2, by omega⟩ c)).extractLsb' (16 * (p.val % 2)) 16 := by
  have key : ∀ p' hp, Shape.Bitcasts.srcIdx bitcasts_S8x128_w32_S16x128_w16 (ix2 p c : S16x128.Idx) p' hp = ix2 ⟨p', hp 0 rfl⟩ c := by
    intro p hp
    funext a
    fin_cases a <;> rfl
  rw [bitcast_32_16, key]
  rfl

/-- The low bytes of the half words, four to a word. -/
def lowBytes (q : IVec S16x128 32) : IVec S8x128 32 :=
  bitcast S8x128 32 (trunci 8 (bitcast S32x128 16 q bitcasts_S16x128_w32_S32x128_w16) natLt_8_16) bitcasts_S32x128_w8_S8x128_w32

/-- A bit of that word: half `p` of the pair, bit `j` of it. -/
theorem lowBytes_at (q : IVec S16x128 32) (m : Fin 16) (c : Fin 128) (a : Fin 8) (k h j : ℕ) (hk : k < 32) (hj : j < 8) (hh : h < 2)
    (e : 4 * a.val + k / 8 = 2 * m.val + h) (ej : k % 8 = j) :
    (lowBytes q (ix2 a c)).getLsbD k = (q (ix2 m c)).getLsbD (16 * h + j) := by
  refine (bitcast_8_32_getLsbD_ix2 (R := 32) (r := 8) (n := 128) _ bitcasts_S32x128_w8_S8x128_w32 a c k hk
    ⟨2 * m.val + h, by omega⟩ e.symm).trans ?_
  have et : (trunci 8 (bitcast S32x128 16 q bitcasts_S16x128_w32_S32x128_w16) natLt_8_16 : IVec S32x128 8)
      (ix2 ⟨2 * m.val + h, by omega⟩ c) = BitVec.setWidth 8 ((q (ix2 m c)).extractLsb' (16 * h) 16) := by
    show BitVec.setWidth 8 (bitcast S32x128 16 q bitcasts_S16x128_w32_S32x128_w16 (ix2 ⟨2 * m.val + h, by omega⟩ c)) = _
    rw [half_at]
    have e1 : (⟨(2 * m.val + h) / 2, by omega⟩ : Fin 16) = m := Fin.ext (by simp only; omega)
    have e2 : (2 * m.val + h) % 2 = h := by omega
    simp only [e1, e2]
  refine (congrArg (fun b : BitVec 8 => b.getLsbD (k % 8)) et).trans ?_
  rw [ej, BitVec.getLsbD_setWidth, BitVec.getLsbD_extractLsb']
  simp [hj, show j < 16 by omega]

theorem packRows_low (q : IVec S16x128 32) (m : Fin 16) (c : Fin 128) :
    (packRows q (ix2 m c)).setWidth 8 = byteOf (q (ix2 m c)) := by
  have e : packRows q (ix2 m c) = (IntOp.ori (lowBytes q (ix2 ⟨m.val / 2, by omega⟩ c))
      (IntOp.shrui ArithUnit.vector (lowBytes q (ix2 ⟨m.val / 2, by omega⟩ c)) 4#32)).extractLsb' (16 * (m.val % 2)) 16 := by
    rw [packRows, half_at']
    rfl
  rw [e, IntOp.ori, IntOp.shrui, if_pos (by decide), BitVec.ushiftRight_eq', show (4#32 : BitVec 32).toNat = 4 from rfl]
  apply BitVec.eq_of_getLsbD_eq
  intro i hi
  rw [BitVec.getLsbD_setWidth, BitVec.getLsbD_extractLsb', BitVec.getLsbD_or, BitVec.getLsbD_ushiftRight,
    lowBytes_at q m c _ (16 * (m.val % 2) + i) 0 i (by omega) hi (by omega) (by simp only; omega) (by omega), byteOf,
    BitVec.getLsbD_or, BitVec.getLsbD_or, BitVec.getLsbD_setWidth, BitVec.getLsbD_ushiftRight, BitVec.getLsbD_setWidth,
    BitVec.getLsbD_shiftLeft, BitVec.getLsbD_setWidth, BitVec.getLsbD_ushiftRight]
  rcases Nat.lt_or_ge i 4 with h4 | h4
  · rw [lowBytes_at q m c _ (4 + (16 * (m.val % 2) + i)) 0 (4 + i) (by omega) (by omega) (by omega) (by simp only; omega) (by omega)]
    simp [hi, h4, show i < 16 by omega, show 4 + i < 8 by omega]
  · rw [lowBytes_at q m c _ (4 + (16 * (m.val % 2) + i)) 1 (i - 4) (by omega) (by omega) (by omega) (by simp only; omega) (by omega)]
    have : ¬ 4 + i < 8 := by omega
    have : ¬ i < 4 := by omega
    have : i - 4 < 8 := by omega
    simp [*, show i < 16 by omega]

set_option maxHeartbeats 2000000 in
/-- The eight blocks' rows one under another. -/
theorem rows_at (x : Fin 8 → IVec S16x128 16) (b : Fin 8) (m : Fin 16) (c : Fin 128) :
    (concatenate S128x128 0 [⟨S16x128, x 0⟩, ⟨S16x128, x 1⟩, ⟨S16x128, x 2⟩, ⟨S16x128, x 3⟩, ⟨S16x128, x 4⟩, ⟨S16x128, x 5⟩,
        ⟨S16x128, x 6⟩, ⟨S16x128, x 7⟩]
      concatenates_S16x128_S16x128_S16x128_S16x128_S16x128_S16x128_S16x128_S16x128_S128x128_d0 : IVec S128x128 16)
      (ix2 ⟨16 * b.val + m.val, by omega⟩ c) = x b (ix2 m c) := by
  have hm := m.isLt
  have same : ∀ (k : Fin 8) (n : ℕ) (h : n < 16), n = m.val → x k (ix2 ⟨n, h⟩ c) = x k (ix2 m c) := by
    rintro k n h rfl; rfl
  fin_cases b <;> pointwise <;> split_ifs <;> first | omega | exact same _ _ _ (by omega)

/-- Rows `o` to `o + 31` of the random bytes. -/
theorem slice_at (o : ℕ) (h : S128x128.Slices ![o, 0] S32x128) (r : IVec S128x128 16) (t : Fin 32) (c : Fin 128) (ho : o + 32 ≤ 128) :
    extractStridedSlice S32x128 ![o, 0] r h (ix2 t c) = r (ix2 ⟨o + t.val, by omega⟩ c) := by
  pointwise

/-- Channels down. -/
theorem flip_at (z : IVec S128x128 16) (i : Fin 1) (c n : Fin 128) :
    (shapeCast S1x128x128 (trunci 8 (transpose S128x128 [1, 0] z transposes_S128x128_p1_0_S128x128) natLt_8_16) shapeCasts_S128x128_S1x128x128
      : IVec S1x128x128 8) (ix3 i c n) = BitVec.setWidth 8 (z (ix2 n c)) := by
  pointwise

end Cert.KernelIdeal.Body

end
-- ==== Proof.KernelAt.lean ====
/-
  The functions of Body.lean at an index, over extended reals: a stored byte holds two tokens' codes (`byteAt`), a stored
  magnitude is a block's largest.
-/
module

public import proofs.«01_k».proof.Proof.SearchAt
public import proofs.«01_k».proof.Proof.PairAt

@[expose] public section

set_option maxRecDepth 16384

noncomputable section

namespace Cert.KernelIdeal.Body

open Idealize.ShloMosaic Cert.KernelIdeal Cert.KernelIdeal.Gen Idealize.ShloMosaic.Tactic
open Cert.KernelIdeal.Power Cert.KernelIdeal.Encode Cert.KernelIdeal.Pack

theorem pairCode_at (w : FVec Ideal S32x128 .f32) (r : IVec S32x128 16) (m : Fin 16) (c : Fin 128) :
    pairCode w r (ix2 m c) = IntOp.andi (IntOp.shrui ArithUnit.vector
      (fineCode w r (ix2 ⟨2 * m.val + 1, by omega⟩ c) ++ fineCode w r (ix2 ⟨2 * m.val, by omega⟩ c) : BitVec 32) 8#32) 983055#32 := by
  rw [← pair_at (fineCode w r) m c, pairCode]
  rfl

theorem pairSign_at (w : FVec Ideal S32x128 .f32) (m : Fin 16) (c : Fin 128) :
    pairSign w (ix2 m c) = IntOp.andi (IntOp.shrui ArithUnit.vector
      (signAt (w (ix2 ⟨2 * m.val + 1, by omega⟩ c)) ++ signAt (w (ix2 ⟨2 * m.val, by omega⟩ c)) : BitVec 32) 12#32) 524296#32 := by
  have key : ∀ t : Fin 32, (trunci 16 (select (cmpf .olt (truncf .bf16 w bitsLt_bf16_f32)
      (broadcast S32x128 (Scalar.ofBits .bf16 0x0000#16))) (broadcast S32x128 4294934528#32) (broadcast S32x128 0#32))
      natLt_16_32 : IVec S32x128 16) (ix2 t c) = signAt (w (ix2 t c)) := by
    intro t
    pointwise
    rfl
  rw [← key, ← key, ← pair_at, pairSign]
  rfl

theorem codeRows_low (w : FVec Ideal S32x128 .f32) (r : IVec S32x128 16) (m : Fin 16) (c : Fin 128) :
    (codeRows w r (ix2 m c)).setWidth 8 = byteAt (scaleAt fun t => w (ix2 t c)) (w (ix2 ⟨2 * m.val, by omega⟩ c))
      (w (ix2 ⟨2 * m.val + 1, by omega⟩ c)) (r (ix2 ⟨2 * m.val, by omega⟩ c)) (r (ix2 ⟨2 * m.val + 1, by omega⟩ c)) := by
  rw [codeRows, packRows_low, byteAt, ← fineCode_at, ← fineCode_at, ← pairCode_at, ← pairSign_at]
  generalize pairCode w r = q
  generalize pairSign w = n
  rfl

theorem hadTile_at (h : Vec Ideal S256x256 .bf16) (x : Vec Ideal S1x256x256 .bf16) (t c : Fin 256) :
    hadTile h x (ix2 t c) = ∑ k : Fin 256, h (ix2 t k) * x (ix3 0 k c) := by
  pointwise [hadTile]

theorem randTile_at (rb : Vec Ideal S1x128x128 .i8) (t c : Fin 128) :
    randTile (F := Ideal) rb (ix2 t c) = BitVec.setWidth 16 (rb (ix3 0 c t)) := by
  pointwise [randTile]

theorem amaxOut_at (am : Vec Ideal S48x128 .f32) (i : Fin 1) (c : Fin 128) (b : Fin 48) :
    amaxOut am (ix3 i c b) = am (ix2 b c) := by
  pointwise [amaxOut]

theorem scaleOut_at (am : Vec Ideal S48x128 .f32) (i : Fin 1) (c : Fin 128) (b : Fin 48) :
    scaleOut (F := Ideal) am (ix3 i c b) = BitVec.setWidth 8 (scaleOf (search (am (ix2 b c))) (am (ix2 b c))) := by
  have e : (transpose S128x48 [1, 0] am transposes_S48x128_p1_0_S128x48 : FVec Ideal S128x48 .f32) (ix2 c b) = am (ix2 b c) := by
    pointwise
  rw [scaleOut, ← e, ← scaleWord_at]
  generalize scaleWord (transpose S128x48 [1, 0] am transposes_S48x128_p1_0_S128x48 : FVec Ideal S128x48 .f32) = z
  pointwise

theorem amTile_at (w : Fin 8 → FVec Ideal S32x128 .f32) (b : Fin 8) (c : Fin 128) :
    amTile w (ix2 b c) = largest fun t => w b (ix2 t c) := by
  rw [← blockAmax_at (w b) 0 c]
  fin_cases b <;> pointwise [amTile]

theorem codeTile_at (w : Fin 8 → FVec Ideal S32x128 .f32) (rb : Fin 2 → Vec Ideal S1x128x128 .i8) (i : Fin 1) (c : Fin 128)
    (b : Fin 8) (m : Fin 16) :
    codeTile w rb (ix3 i c ⟨16 * b.val + m.val, by omega⟩)
      = byteAt (scaleAt fun t => w b (ix2 t c)) (w b (ix2 ⟨2 * m.val, by omega⟩ c)) (w b (ix2 ⟨2 * m.val + 1, by omega⟩ c))
          (BitVec.setWidth 16 (rb ⟨b.val / 4, by omega⟩ (ix3 0 c ⟨32 * (b.val % 4) + 2 * m.val, by omega⟩)))
          (BitVec.setWidth 16 (rb ⟨b.val / 4, by omega⟩ (ix3 0 c ⟨32 * (b.val % 4) + (2 * m.val + 1), by omega⟩))) := by
  have slices : ∀ k : Fin 4, S128x128.Slices ![32 * k.val, 0] S32x128 := by
    intro k; fin_cases k
    · exact slices_S128x128_o0_0_S32x128
    · exact slices_S128x128_o32_0_S32x128
    · exact slices_S128x128_o64_0_S32x128
    · exact slices_S128x128_o96_0_S32x128
  have rows : codeTile w rb (ix3 i c ⟨16 * b.val + m.val, by omega⟩)
      = BitVec.setWidth 8 (codeRows (w b) (extractStridedSlice S32x128 ![32 * (b.val % 4), 0] (randTile (F := Ideal) (rb ⟨b.val / 4, by omega⟩))
          (slices ⟨b.val % 4, by omega⟩)) (ix2 m c)) := by
    exact (flip_at _ i c _).trans (congrArg (BitVec.setWidth 8) (rows_at (fun b => codeRows (w b)
      (extractStridedSlice S32x128 ![32 * (b.val % 4), 0] (randTile (F := Ideal) (rb ⟨b.val / 4, by omega⟩))
          (slices ⟨b.val % 4, by omega⟩))) b m c))
  rw [rows, codeRows_low, slice_at _ _ _ _ _ (by omega), slice_at _ _ _ _ _ (by omega), randTile_at, randTile_at]

end Cert.KernelIdeal.Body

end
-- ==== Proof.BlockAt.lean ====
/-
  What one run of the kernel's body leaves in its three result blocks, at an index: the pieces of Pieces.lean read back,
  as functions of the three input blocks.
-/
module

public import proofs.«01_k».proof.Proof.Pieces
public import proofs.«01_k».proof.Proof.KernelAt
public import Idealize.ShloMosaic.Lib.Pipeline.ReadBack
public import Idealize.ShloMosaic.Lib.VecWindow

@[expose] public section

set_option maxRecDepth 16384

noncomputable section

namespace Cert.KernelIdeal.Body

open Idealize.ShloMosaic Cert.KernelIdeal Cert.KernelIdeal.Gen Idealize.ShloMosaic.Tactic
open Cert.KernelIdeal.Power Cert.KernelIdeal.Encode Cert.KernelIdeal.Pack

section
variable (x0 : Vec Ideal S1x1536x512 .bf16) (x1 : Vec Ideal S256x256 .bf16) (x2 : Vec Ideal S1x512x1536 .i8)

/-- Token `t` of channel `ch` after the rotation: a row of the matrix times the token's run of 256. -/
def turned (ch : Fin 512) (t : Fin 1536) : EReal :=
  ∑ k : Fin 256, (x1 (ix2 ⟨t.val % 256, by omega⟩ k) * x0 (ix3 0 ⟨t.val / 256 * 256 + k.val, by omega⟩ ch) : EReal)

/-- The 32 tokens of block `b` of a channel. -/
def column (ch : Fin 512) (b : Fin 48) (t : Fin 32) : EReal := turned x0 x1 ch ⟨32 * b.val + t.val, by omega⟩

/-- The byte of tokens `2 p` and `2 p + 1` of a channel. -/
def bytePair (ch : Fin 512) (p : Fin 768) : BitVec 8 :=
  byteAt (scaleAt (column x0 x1 ch ⟨p.val / 16, by omega⟩))
    (turned x0 x1 ch ⟨2 * p.val, by omega⟩) (turned x0 x1 ch ⟨2 * p.val + 1, by omega⟩)
    (BitVec.setWidth 16 (x2 (ix3 0 ch ⟨2 * p.val, by omega⟩))) (BitVec.setWidth 16 (x2 (ix3 0 ch ⟨2 * p.val + 1, by omega⟩)))

theorem turned_congr {ch ch' : Fin 512} {t t' : Fin 1536} (h : ch.val = ch'.val) (h' : t.val = t'.val) :
    turned x0 x1 ch t = turned x0 x1 ch' t' := by rw [Fin.ext h, Fin.ext h']

theorem rand_congr {ch ch' : Fin 512} {t t' : Fin 1536} (h : ch.val = ch'.val) (h' : t.val = t'.val) :
    x2 (ix3 0 ch t) = x2 (ix3 0 ch' t') := by rw [Fin.ext h, Fin.ext h']

theorem column_congr {ch ch' : Fin 512} {b b' : Fin 48} (h : ch.val = ch'.val) (h' : b.val = b'.val) :
    column x0 x1 ch b = column x0 x1 ch' b' := by rw [Fin.ext h, Fin.ext h']

theorem byte_congr {f f' : Fin 32 → EReal} {w0 w0' w1 w1' : EReal} {r0 r0' r1 r1' : BitVec 8} (hf : f = f') (h0 : w0 = w0')
    (h1 : w1 = w1') (g0 : r0 = r0') (g1 : r1 = r1') :
    byteAt (scaleAt f) w0 w1 (r0.setWidth 16) (r1.setWidth 16) = byteAt (scaleAt f') w0' w1' (r0'.setWidth 16) (r1'.setWidth 16) := by
  rw [hf, h0, h1, g0, g1]

section
variable (arg2 : Memref sig .tc .vmem S1x1536x512 .bf16) (harg2 : arg2.IsWhole)
  (arg3 : Memref sig .tc .vmem S256x256 .bf16) (harg3 : arg3.IsWhole)
  (arg4 : Memref sig .tc .vmem S1x512x1536 .i8) (harg4 : arg4.IsWhole)
  (arg8 : Memref sig .tc .vmem S256x256 .f32) (arg9 : Memref sig .tc .vmem S48x512 .f32)

theorem blockLoad_at (T : Tile) (b : Fin 8) (t : Fin 32) (c : Fin 128) :
    blockLoad (F := Ideal) arg2 harg2 arg3 harg3 arg8 x0 x1 T b (ix2 t c)
      = turned x0 x1 ⟨T.chan + c.val, by have := T.half.isLt; have := T.lane.isLt; simp only [Tile.chan]; omega⟩
          ⟨256 * T.run.val + 32 * b.val + t.val, by have := T.run.isLt; omega⟩ := by
  have hh := T.half.isLt
  have hl := T.lane.isLt
  have hr := T.run.isLt
  rw [blockLoad, hadStores, hadStore, View.readCov_fill _ _ _ _ _ (by intro a; fin_cases a <;> rfl)]
  have e : ∀ (Z : FVec Ideal S256x256 .f32) (inb), View.ld (Val := Elt Ideal) (e' := .f32) Z
      (Rect.unit (s := S256x256) ![32 * b.val, 128 * T.lane.val] S32x128.size inb) (ix2 t c)
      = Z (ix2 ⟨32 * b.val + t.val, by omega⟩ ⟨128 * T.lane.val + c.val, by omega⟩) := by
    intro Z inb
    refine congrArg Z (funext fun a => Fin.ext ?_)
    rw [Rect.idx_unit_val]
    fin_cases a <;> rfl
  refine (e _ _).trans ?_
  rw [hadTile_at, View.readAt_full, harg3.read_unread, turned]
  refine Finset.sum_congr rfl fun k _ => ?_
  congr 1
  · exact congrArg (fun i => x1 (ix2 i k)) (Fin.ext (by simp only; omega))
  · rw [View.readAt_apply, harg2.read_unread]
    refine congrArg x0 (funext fun a => Fin.ext ?_)
    refine (Rect.idx_unit_val _ _ _ _ a).trans ?_
    fin_cases a
    · rfl
    · show 256 * ((6 * T.half.val + T.run.val) % 6) + k.val = (256 * T.run.val + 32 * b.val + t.val) / 256 * 256 + k.val
      omega
    · show 256 * ((6 * T.half.val + T.run.val) / 6 % 2) + (128 * T.lane.val + c.val) = 256 * T.half.val + 128 * T.lane.val + c.val
      omega

theorem randLoad_at (T : Tile) (h : Fin 2) (i : Fin 1) (c n : Fin 128) :
    randLoad (F := Ideal) arg4 harg4 x2 T h (ix3 i c n)
      = x2 (ix3 0 ⟨T.chan + c.val, by have := T.half.isLt; have := T.lane.isLt; simp only [Tile.chan]; omega⟩
          ⟨256 * T.run.val + 128 * h.val + n.val, by have := T.run.isLt; omega⟩) := by
  rw [randLoad, View.readAt_apply, harg4.read_unread]
  refine congrArg x2 (funext fun a => Fin.ext ?_)
  refine (Rect.idx_unit_val _ _ _ _ a).trans ?_
  have := i.isLt
  fin_cases a
  · show 0 + i.val = 0
    omega
  · rfl
  · rfl

/-- The stored codes are the bytes of their place. -/
theorem codeStore_at (T : Tile) (i : Fin 1) (c n : Fin 128) :
    codeTile (blockLoad (F := Ideal) arg2 harg2 arg3 harg3 arg8 x0 x1 T) (randLoad (F := Ideal) arg4 harg4 x2 T) (ix3 i c n)
      = bytePair x0 x1 x2 ⟨T.chan + c.val, by have := T.half.isLt; have := T.lane.isLt; simp only [Tile.chan]; omega⟩
          ⟨128 * T.run.val + n.val, by have := T.run.isLt; omega⟩ := by
  have hr := T.run.isLt
  obtain ⟨k, m, rfl⟩ : ∃ (k : Fin 8) (m : Fin 16), n = ⟨16 * k.val + m.val, by omega⟩ :=
    ⟨⟨n.val / 16, by omega⟩, ⟨n.val % 16, by omega⟩, Fin.ext (by simp only; omega)⟩
  refine (codeTile_at _ _ i c k m).trans (byte_congr (funext fun t => ?_) ?_ ?_ ?_ ?_)
  · exact (blockLoad_at ..).trans (turned_congr _ _ rfl (by simp only; omega))
  · exact (blockLoad_at ..).trans (turned_congr _ _ rfl (by simp only; omega))
  · exact (blockLoad_at ..).trans (turned_congr _ _ rfl (by simp only; omega))
  · exact (randLoad_at ..).trans (rand_congr _ rfl (by simp only; omega))
  · exact (randLoad_at ..).trans (rand_congr _ rfl (by simp only; omega))

/-- The stored largest magnitudes are those of their place. -/
theorem amStore_at (T : Tile) (b : Fin 8) (c : Fin 128) :
    amTile (F := Ideal) (blockLoad (F := Ideal) arg2 harg2 arg3 harg3 arg8 x0 x1 T) (ix2 b c)
      = largest (column x0 x1 ⟨T.chan + c.val, by have := T.half.isLt; have := T.lane.isLt; simp only [Tile.chan]; omega⟩
          ⟨8 * T.run.val + b.val, by have := T.run.isLt; omega⟩) := by
  have hr := T.run.isLt
  rw [amTile_at]
  refine congrArg largest (funext fun t => ?_)
  rw [blockLoad_at, column]
  exact turned_congr _ _ rfl (by simp only; omega)

theorem amCover (y : S48x512.Idx) : ∃ p ∈ tiles.map (amStore (F := Ideal) arg2 harg2 arg3 harg3 arg8 x0 x1), y ∈ p.1.set :=
  View.cover_of_tiledL (s := S48x512) _ S8x128.size (by sl_kernel_rfl) y

/-- The largest magnitudes read back are those of their channel and block. -/
theorem amLoad_at (q : Fin 4) (b : Fin 48) (c : Fin 128) :
    amLoad (F := Ideal) arg2 harg2 arg3 harg3 arg8 arg9 x0 x1 q (ix2 b c)
      = largest (column x0 x1 ⟨128 * q.val + c.val, by omega⟩ b) := by
  rw [amLoad, View.readCov_eq_canon']
  refine (View.canon_apply_of_pieces (fun j : S48x512.Idx => (largest (column x0 x1 (j 1) (j 0)) : EReal)) _ ?_ _ (amCover ..)).trans ?_
  · refine List.forall_mem_map.mpr fun T _ x => ?_
    obtain ⟨b, c, rfl⟩ : ∃ (b : Fin 8) (c : Fin 128), x = ix2 b c := ⟨x 0, x 1, by funext a; fin_cases a <;> rfl⟩
    refine (amStore_at x0 x1 arg2 harg2 arg3 harg3 arg8 T b c).trans (congrArg largest (column_congr _ _ ?_ ?_))
    · exact congrArg (T.chan + ·) (Nat.one_mul c.val).symm
    · exact congrArg (8 * T.run.val + ·) (Nat.one_mul b.val).symm
  · refine congrArg largest (column_congr _ _ ?_ ?_)
    · exact congrArg (128 * q.val + ·) (Nat.one_mul c.val)
    · exact (Nat.zero_add _).trans (Nat.one_mul b.val)

end

section
variable (c : Dev nD) (i : grid0.Coords) (arg2 : Memref sig .tc .vmem S1x1536x512 .bf16) (harg2 : arg2.IsWhole) (arg3 : Memref sig .tc .vmem S256x256 .bf16) (harg3 : arg3.IsWhole) (arg4 : Memref sig .tc .vmem S1x512x1536 .i8) (harg4 : arg4.IsWhole) (arg5 : Memref sig .tc .vmem S1x512x48 .f32) (harg5 : arg5.IsWhole) (arg6 : Memref sig .tc .vmem S1x512x768 .i8) (harg6 : arg6.IsWhole) (arg7 : Memref sig .tc .vmem S1x512x48 .i8) (harg7 : arg7.IsWhole) (arg8 : Memref sig .tc .vmem S256x256 .f32) (harg8 : arg8.IsWhole) (arg9 : Memref sig .tc .vmem S48x512 .f32) (harg9 : arg9.IsWhole)

/-- The result block of largest magnitudes. -/
theorem amax_block (y : S1x512x48.Idx) :
    out0_A_3 (F := Ideal) c i arg2 harg2 arg3 harg3 arg4 harg4 arg5 harg5 arg6 harg6 arg7 harg7 arg8 harg8 arg9 harg9 x0 x1 x2 y
      = largest (column x0 x1 (y 1) (y 2)) := by
  have hc := cover0_A_3 (F := Ideal) c i arg2 harg2 arg3 harg3 arg4 harg4 arg5 harg5 arg6 harg6 arg7 harg7 arg8 harg8 arg9 harg9 x0 x1 x2 y
  rw [out0_A_3, View.read_writes_apply_eq_canon _ _ _ _ hc]
  rw [amax_pieces] at hc ⊢
  refine View.canon_apply_of_pieces (fun j : S1x512x48.Idx => (largest (column x0 x1 (j 1) (j 2)) : EReal)) _ ?_ _ hc
  refine List.forall_mem_map.mpr fun q _ x => ?_
  obtain ⟨i, c, b, rfl⟩ : ∃ (i : Fin 1) (c : Fin 128) (b : Fin 48), x = ix3 i c b := ⟨x 0, x 1, x 2, by funext a; fin_cases a <;> rfl⟩
  refine ((amaxOut_at _ i c b).trans (amLoad_at ..)).trans (congrArg largest (column_congr _ _ ?_ ?_))
  · exact congrArg (128 * q.val + ·) (Nat.one_mul c.val).symm
  · exact ((Nat.zero_add _).trans (Nat.one_mul b.val)).symm

/-- The result block of scale bytes. -/
theorem scale_block (y : S1x512x48.Idx) :
    out0_A_5 (F := Ideal) c i arg2 harg2 arg3 harg3 arg4 harg4 arg5 harg5 arg6 harg6 arg7 harg7 arg8 harg8 arg9 harg9 x0 x1 x2 y
      = BitVec.setWidth 8 (scaleAt (column x0 x1 (y 1) (y 2))) := by
  have hc := cover0_A_5 (F := Ideal) c i arg2 harg2 arg3 harg3 arg4 harg4 arg5 harg5 arg6 harg6 arg7 harg7 arg8 harg8 arg9 harg9 x0 x1 x2 y
  rw [out0_A_5, View.read_writes_apply_eq_canon _ _ _ _ hc]
  rw [scale_pieces] at hc ⊢
  refine View.canon_apply_of_pieces (fun j : S1x512x48.Idx => BitVec.setWidth 8 (scaleAt (column x0 x1 (j 1) (j 2)))) _ ?_ _ hc
  refine List.forall_mem_map.mpr fun q _ x => ?_
  obtain ⟨i, c, b, rfl⟩ : ∃ (i : Fin 1) (c : Fin 128) (b : Fin 48), x = ix3 i c b := ⟨x 0, x 1, x 2, by funext a; fin_cases a <;> rfl⟩
  refine ((scaleOut_at _ i c b).trans ?_).trans (congrArg (fun f => BitVec.setWidth 8 (scaleAt f)) (column_congr x0 x1
    (ch := ⟨128 * q.val + c.val, by omega⟩) (b := b) ?_ ?_))
  · rw [amLoad_at]; rfl
  · exact congrArg (128 * q.val + ·) (Nat.one_mul c.val).symm
  · exact ((Nat.zero_add _).trans (Nat.one_mul b.val)).symm

/-- The result block of codes. -/
theorem code_block (y : S1x512x768.Idx) :
    out0_A_4 (F := Ideal) c i arg2 harg2 arg3 harg3 arg4 harg4 arg5 harg5 arg6 harg6 arg7 harg7 arg8 harg8 arg9 harg9 x0 x1 x2 y
      = bytePair x0 x1 x2 (y 1) (y 2) := by
  have hc := cover0_A_4 (F := Ideal) c i arg2 harg2 arg3 harg3 arg4 harg4 arg5 harg5 arg6 harg6 arg7 harg7 arg8 harg8 arg9 harg9 x0 x1 x2 y
  rw [out0_A_4, View.read_writes_apply_eq_canon _ _ _ _ hc]
  rw [code_pieces] at hc ⊢
  refine View.canon_apply_of_pieces (fun j : S1x512x768.Idx => bytePair x0 x1 x2 (j 1) (j 2)) _ ?_ _ hc
  refine List.forall_mem_map.mpr fun T _ x => ?_
  obtain ⟨i, c, n, rfl⟩ : ∃ (i : Fin 1) (c n : Fin 128), x = ix3 i c n := ⟨x 0, x 1, x 2, by funext a; fin_cases a <;> rfl⟩
  refine (codeStore_at x0 x1 x2 arg2 harg2 arg3 harg3 arg4 harg4 arg8 T i c n).trans (congrArg₂ (bytePair x0 x1 x2) (Fin.ext ?_) (Fin.ext ?_))
  · exact congrArg (T.chan + ·) (Nat.one_mul c.val).symm
  · exact congrArg (128 * T.run.val + ·) (Nat.one_mul n.val).symm

end

end

end Cert.KernelIdeal.Body

end
-- ==== Proof.RefBody.lean ====
/-
  What the reference computes, as a few functions on arrays, for any float values `F`: the reference's own operations in
  its own order, cut into steps. The generated terms of the run are these steps one after another (`term_*`, by
  definition).
-/
module

public import proofs.«01_k».proof.Proof.Gen.ReferenceIdeal.Run

@[expose] public section

set_option maxRecDepth 16384

noncomputable section

namespace Cert.ReferenceIdeal.Body

open Idealize.ShloMosaic Cert.ReferenceIdeal Cert.ReferenceIdeal.Gen

variable {F : FTy → Type} [FloatOps F]

/-- `i & j`. -/
def common : IVec S16x16 32 :=
  andi (broadcastInDim S16x16 ![0, 1] bcast_S16x1_S16x16_0_1 (broadcastInDim S16x1 ![0] bcast_S16_S16x1_0 (iotaInDim S16 32 0)))
    (broadcastInDim S16x16 ![0, 1] bcast_S1x16_S16x16_0_1 (broadcastInDim S1x16 ![1] bcast_S16_S1x16_1 (iotaInDim S16 32 0)))

/-- A constant word everywhere. -/
abbrev words (n : BitVec 32) : IVec S16x16 32 := broadcastInDim S16x16 ![] bcast_S_S16x16 (constantI S_ 32 n)

/-- The parity of the number of common bits of `i` and `j`. -/
def parity (m : IVec S16x16 32) : IVec S16x16 32 :=
  andi (addi (addi (addi (andi m (words 1#32)) (andi (Host.shrsi m (words 1#32)) (words 1#32)))
    (andi (Host.shrsi m (words 2#32)) (words 1#32))) (andi (Host.shrsi m (words 3#32)) (words 1#32))) (words 1#32)

/-- The Hadamard matrix over four, times the signs `s`, by its parities. -/
def hadamard (p : IVec S16x16 32) (s : FVec F S16 .f32) : FVec F S16x16 .bf16 :=
  truncf .bf16 (mulf (mulf (broadcastInDim S16x16 ![] bcast_S_S16x16 (constant S_ .f32 0x3E800000#32))
    (subf (broadcastInDim S16x16 ![] bcast_S_S16x16 (constant S_ .f32 0x3F800000#32))
      (mulf (broadcastInDim S16x16 ![] bcast_S_S16x16 (constant S_ .f32 0x40000000#32)) (sitofp .f32 p))))
    (broadcastInDim S16x16 ![0, 1] bcast_S1x16_S16x16_0_1 (broadcastInDim S1x16 ![1] bcast_S16_S1x16_1 s))) bitsLt_bf16_f32

/-- The tokens in sixteens under the matrix `r`, channels first. -/
def rotate (r : FVec F S16x16 .bf16) (x : FVec F S1x1536x28672 .bf16) : FVec F S1x28672x1536 .f32 :=
  shapeCast _ (transpose S1x28672x96x16 [1, 3, 2, 0]
    (Host.dotGeneral dot_S16x16_S1x96x16x28672_S16x1x96x28672_1_2_0_013_n_n none r
      (shapeCast _ x shapeCasts_S1x1536x28672_S1x96x16x28672) : FVec F S16x1x96x28672 .f32)
    transposes_S16x1x96x28672_S1x28672x96x16_1_3_2_0) shapeCasts_S1x28672x96x16_S1x28672x1536

/-- The tokens in blocks of 32. -/
def blocks (w : FVec F S1x28672x1536 .f32) : FVec F S1x28672x48x32 .f32 :=
  shapeCast _ w shapeCasts_S1x28672x1536_S1x28672x48x32

/-- Each block's largest magnitude. -/
def amax (w : FVec F S1x28672x48x32 .f32) : FVec F S1x28672x48 .f32 :=
  Host.reduce FloatOps.maximumf (Host.absf w) (constant S_ .f32 0xFF800000#32) reducesTo_S1x28672x48x32_S1x28672x48_d3 h_S_

/-- A constant float for every block. -/
abbrev each (n : BitVec 32) : FVec F S1x28672x48 .f32 := broadcastInDim S1x28672x48 ![] bcast_S_S1x28672x48 (constant S_ .f32 n)

/-- Each block's shared exponent. -/
def sharedExp (m : FVec F S1x28672x48 .f32) : FVec F S1x28672x48 .f32 :=
  select (cmpf .ogt m (each 0x00000000#32))
    (subf (Host.floor (Host.divf (Host.log m) (broadcastInDim S1x28672x48 ![] bcast_S_S1x28672x48 (id (Host.log (constant S_ .f32 0x40000000#32))))))
      (each 0x40000000#32))
    (broadcastInDim S1x28672x48 ![] bcast_S_S1x28672x48 (id (constant S_ .f32 0x00000000#32)))

/-- Each block's scale byte. -/
def scaleByte (e : FVec F S1x28672x48 .f32) : IVec S1x28672x48 8 :=
  trunci 8 (addi (fptosi 32 e) (broadcastInDim S1x28672x48 ![] bcast_S_S1x28672x48 (constantI S_ 32 127#32))) natLt_8_32

/-- A constant float for every element. -/
abbrev all (n : BitVec 32) : FVec F S1x28672x48x32 .f32 := broadcastInDim S1x28672x48x32 ![] bcast_S_S1x28672x48x32 (constant S_ .f32 n)

/-- The elements over their scale, clipped to the grid's range. -/
def scaled (w : FVec F S1x28672x48x32 .f32) (e : FVec F S1x28672x48 .f32) : FVec F S1x28672x48x32 .f32 :=
  minimumf (broadcastInDim S1x28672x48x32 ![] bcast_S_S1x28672x48x32 (id (constant S_ .f32 0x40C00000#32)))
    (maximumf (broadcastInDim S1x28672x48x32 ![] bcast_S_S1x28672x48x32 (id (constant S_ .f32 0xC0C00000#32)))
      (mulf w (broadcastInDim S1x28672x48x32 ![0, 1, 2, 3] bcast_S1x28672x48x1_S1x28672x48x32_0_1_2_3
        (broadcastInDim S1x28672x48x1 ![0, 1, 2] bcast_S1x28672x48_S1x28672x48x1_0_1_2
          (Host.powf (each 0x40000000#32) (Host.negf e))))))

/-- The distance between the grid's neighbours. -/
def spacing (a : FVec F S1x28672x48x32 .f32) : FVec F S1x28672x48x32 .f32 :=
  id (select (cmpf .olt a (all 0x40000000#32)) (all 0x3F000000#32)
    (select (cmpf .olt a (all 0x40800000#32)) (all 0x3F800000#32) (all 0x40000000#32)))

/-- The neighbour below. -/
def lower (a s : FVec F S1x28672x48x32 .f32) : FVec F S1x28672x48x32 .f32 := mulf (Host.floor (Host.divf a s)) s

/-- The neighbour above where the random byte is below the fraction, else the one below. -/
def rounded (a s l : FVec F S1x28672x48x32 .f32) (b : IVec S1x28672x1536 8) : FVec F S1x28672x48x32 .f32 :=
  addf l (mulf s (uitofp .f32 (cmpf .olt
    (addf (sitofp .f32 (extui 32 (shapeCast _ b shapeCasts_S1x28672x1536_S1x28672x48x32 : IVec S1x28672x48x32 8) natLt_8_32)) (all 0x3F000000#32))
    (mulf (Host.divf (subf a l) s) (all 0x43800000#32)))))

/-- The grid's index of a rounded magnitude. -/
def index (q : FVec F S1x28672x48x32 .f32) : IVec S1x28672x48x32 32 :=
  fptosi 32 (select (cmpf .olt q (all 0x40000000#32)) (mulf (all 0x40000000#32) q)
    (select (cmpf .olt q (all 0x40800000#32)) (addf q (all 0x40000000#32)) (addf (mulf q (all 0x3F000000#32)) (all 0x40800000#32))))

/-- The index with the sign, tokens in pairs. -/
def code (y : FVec F S1x28672x48x32 .f32) (n : IVec S1x28672x48x32 32) : IVec S1x28672x768x2 32 :=
  shapeCast _ (select (andi (cmpf .olt y (all 0x00000000#32))
      (cmpi .sgt n (broadcastInDim S1x28672x48x32 ![] bcast_S_S1x28672x48x32 (constantI S_ 32 0#32))))
    (ori n (broadcastInDim S1x28672x48x32 ![] bcast_S_S1x28672x48x32 (constantI S_ 32 8#32))) n) shapeCasts_S1x28672x48x32_S1x28672x768x2

/-- Two codes to a byte. -/
def packed (c : IVec S1x28672x768x2 32) : IVec S1x28672x768 8 :=
  trunci 8 (ori
    (shapeCast S1x28672x768 (extractStridedSlice S1x28672x768x1 ![0, 0, 0, 0] c slices_S1x28672x768x2_S1x28672x768x1_0_0_0_0) shapeCasts_S1x28672x768x1_S1x28672x768)
    (Host.shli (shapeCast S1x28672x768 (extractStridedSlice S1x28672x768x1 ![0, 0, 0, 1] c slices_S1x28672x768x2_S1x28672x768x1_0_0_0_1) shapeCasts_S1x28672x768x1_S1x28672x768)
      (broadcastInDim S1x28672x768 ![] bcast_S_S1x28672x768 (constantI S_ 32 4#32)))) natLt_8_32

/-- The rotated tokens from the arguments. -/
def rotated (x : FVec F S1x1536x28672 .bf16) (s : FVec F S16 .f32) : FVec F S1x28672x1536 .f32 :=
  rotate (hadamard (parity common) s) x

/-- The packed codes from the blocks, their exponents and the random bytes. -/
def codes (w : FVec F S1x28672x48x32 .f32) (e : FVec F S1x28672x48 .f32) (b : IVec S1x28672x1536 8) : IVec S1x28672x768 8 :=
  let y := scaled w e
  let a := Host.absf y
  packed (code y (index (rounded a (spacing a) (lower a (spacing a)) b)))

section
open Cert.ReferenceIdeal.Value

variable (V0 : Valuation τ sig (Elt F))

/-- The three arguments. -/
abbrev argX : FVec F S1x1536x28672 .bf16 := V0 (Proc.devRef .tc main_arg0)
abbrev argS : FVec F S16 .f32 := V0 (Proc.devRef .tc main_arg1)
abbrev argB : IVec S1x28672x1536 8 := V0 (Proc.devRef .tc main_arg2)

theorem term_w : res_main_v40 V0 = rotated (argX V0) (argS V0) := rfl
theorem term_amax : res_main_v44 V0 = amax (blocks (rotated (argX V0) (argS V0))) := rfl
theorem term_exp : res_main_v55 V0 = sharedExp (amax (blocks (rotated (argX V0) (argS V0)))) := rfl
theorem term_codes : packed (res_main_v114 V0)
    = codes (blocks (rotated (argX V0) (argS V0))) (sharedExp (amax (blocks (rotated (argX V0) (argS V0))))) (argB V0) := rfl

end

end Cert.ReferenceIdeal.Body

end
-- ==== Proof.Rotation.lean ====
/-
  The rotation's matrix as the kernel's host code makes it, and the product's value: the 256 by 256 matrix has the 16 by 16
  one on its diagonal and zeros elsewhere, so 256 products sum to the 16 of the reference.
-/
module

public import proofs.«01_k».proof.Proof.Gen.KernelIdeal.Value
public import proofs.«01_k».proof.Proof.RefBody
public import Idealize.ShloMosaic.Lib.Pointwise
public import Idealize.ShloMosaic.Lib.Claim
public import Idealize.ShloMosaic.Lib.Pipeline.ValueKit
public import Idealize.ShloMosaic.Lib.IdealHost
public import Mathlib.Logic.Equiv.Fin.Basic

@[expose] public section

set_option maxRecDepth 16384

noncomputable section

namespace Cert.KernelIdeal.Rotation

open Idealize.ShloMosaic Cert.KernelIdeal Cert.KernelIdeal.Gen Idealize.ShloMosaic.Tactic Idealize.ShloMosaic.TcCoe
open Cert.ReferenceIdeal.Body (common parity hadamard rotate rotated words)

section
variable {F : FTy → Type} [FloatOps F]

/-- The parity of the bits of `m`, by exclusive or. -/
def xorParity (m : IVec S16x16 32) : IVec S16x16 32 :=
  andi (xori (xori (xori m (Host.shrsi m (words 1#32))) (Host.shrsi m (words 2#32))) (Host.shrsi m (words 3#32))) (words 1#32)

/-- The 16 by 16 identity. -/
def eye : FVec F S16x16 .bf16 :=
  uitofp .bf16 (cmpi .eq (addi (iotaInDim S16x16 32 0) (words 0#32)) (iotaInDim S16x16 32 1))

/-- The matrix that has `r` in the places where `e` has one. -/
def kron (e r : FVec F S16x16 .bf16) : FVec F S256x256 .bf16 :=
  shapeCast _ (mulf
    (broadcastInDim S16x16x16x16 ![0, 1, 2, 3] bcast_S16x1x16x1_S16x16x16x16_0_1_2_3 (broadcastInDim S16x1x16x1 ![0, 2] bcast_S16x16_S16x1x16x1_0_2 e))
    (broadcastInDim S16x16x16x16 ![0, 1, 2, 3] bcast_S1x16x1x16_S16x16x16x16_0_1_2_3 (broadcastInDim S1x16x1x16 ![1, 3] bcast_S16x16_S1x16x1x16_1_3 r)))
    shapeCasts_S16x16x16x16_S256x256

/-- What the matrix's buffer holds when the kernel starts. -/
theorem matrix_eq (m : (ℓ : Loc nD τ sig) → Buf (Elt F) ℓ) (c : Dev nD) :
    V m c main_v40 = kron eye (hadamard (xorParity common) (m ((c : Thread nD τ).loc main_arg1))) := by
  entry_read
  rfl

end

theorem common_at (i j : Fin 16) : common (ix2 i j) = IntOp.andi (BitVec.ofNat 32 i.val) (BitVec.ofNat 32 j.val) := by
  pointwise [common]

theorem parity_at (m : IVec S16x16 32) (i j : Fin 16) :
    parity m (ix2 i j) = IntOp.andi (IntOp.addi (IntOp.addi (IntOp.addi (IntOp.andi (m (ix2 i j)) 1#32)
      (IntOp.andi (IntOp.shrsi ArithUnit.host (m (ix2 i j)) 1#32) 1#32)) (IntOp.andi (IntOp.shrsi ArithUnit.host (m (ix2 i j)) 2#32) 1#32))
      (IntOp.andi (IntOp.shrsi ArithUnit.host (m (ix2 i j)) 3#32) 1#32)) 1#32 := by
  pointwise [parity]

theorem xorParity_at (m : IVec S16x16 32) (i j : Fin 16) :
    xorParity m (ix2 i j) = IntOp.andi (IntOp.xori (IntOp.xori (IntOp.xori (m (ix2 i j))
      (IntOp.shrsi ArithUnit.host (m (ix2 i j)) 1#32)) (IntOp.shrsi ArithUnit.host (m (ix2 i j)) 2#32))
      (IntOp.shrsi ArithUnit.host (m (ix2 i j)) 3#32)) 1#32 := by
  pointwise [xorParity]

/-- The two parities of a word of four bits. -/
theorem parities : ∀ n : Fin 16,
    IntOp.andi (IntOp.xori (IntOp.xori (IntOp.xori (BitVec.ofNat 32 n.val) (IntOp.shrsi ArithUnit.host (BitVec.ofNat 32 n.val) 1#32))
      (IntOp.shrsi ArithUnit.host (BitVec.ofNat 32 n.val) 2#32)) (IntOp.shrsi ArithUnit.host (BitVec.ofNat 32 n.val) 3#32)) 1#32
    = IntOp.andi (IntOp.addi (IntOp.addi (IntOp.addi (IntOp.andi (BitVec.ofNat 32 n.val) 1#32)
      (IntOp.andi (IntOp.shrsi ArithUnit.host (BitVec.ofNat 32 n.val) 1#32) 1#32)) (IntOp.andi (IntOp.shrsi ArithUnit.host (BitVec.ofNat 32 n.val) 2#32) 1#32))
      (IntOp.andi (IntOp.shrsi ArithUnit.host (BitVec.ofNat 32 n.val) 3#32) 1#32)) 1#32 := by
  decide +kernel

theorem common_lt : ∀ i j : Fin 16, ∃ n : Fin 16, IntOp.andi (BitVec.ofNat 32 i.val) (BitVec.ofNat 32 j.val) = BitVec.ofNat 32 n.val := by
  decide +kernel

theorem xorParity_eq : xorParity common = parity common := by
  funext y
  obtain ⟨i, j, rfl⟩ : ∃ i j : Fin 16, y = ix2 i j := ⟨y 0, y 1, by funext a; fin_cases a <;> rfl⟩
  obtain ⟨n, hn⟩ := common_lt i j
  rw [xorParity_at, parity_at, common_at, hn, parities]

theorem eye_word : ∀ i j : Fin 16, IntOp.cmpi .eq (IntOp.addi (BitVec.ofNat 32 i.val) 0#32) (BitVec.ofNat 32 j.val)
    = if i = j then 1#1 else 0#1 := by
  decide +kernel

theorem eye_at (i j : Fin 16) : eye (F := Ideal) (ix2 i j) = if i = j then (1 : EReal) else 0 := by
  have e : eye (F := Ideal) (ix2 i j)
      = FloatOps.uitofp (F := Ideal) FTy.bf16 (IntOp.cmpi .eq (IntOp.addi (BitVec.ofNat 32 i.val) 0#32) (BitVec.ofNat 32 j.val)) := by
    pointwise [eye]
  rw [e, eye_word]
  show (((if i = j then 1#1 else 0#1 : BitVec 1).toNat : ℝ) : EReal) = _
  split <;> simp

theorem kron_at (e r : FVec Ideal S16x16 .bf16) (i k : Fin 256) :
    kron e r (ix2 i k) = e (ix2 ⟨i.val / 16, by omega⟩ ⟨k.val / 16, by omega⟩) * r (ix2 ⟨i.val % 16, by omega⟩ ⟨k.val % 16, by omega⟩) := by
  pointwise [kron]

theorem rotate_at (r : FVec Ideal S16x16 .bf16) (x : FVec Ideal S1x1536x28672 .bf16) (i : Fin 1) (ch : Fin 28672) (t : Fin 1536) :
    rotate r x (ix3 i ch t) = ∑ k : Fin 16, (r (ix2 ⟨t.val % 16, by omega⟩ k) * x (ix3 0 ⟨t.val / 16 * 16 + k.val, by omega⟩ ch) : EReal) := by
  pointwise [rotate]

/-- Products with the zeros off the diagonal drop. -/
theorem sum_kron (r : FVec Ideal S16x16 .bf16) (f : Fin 256 → EReal) (i : Fin 256) :
    ∑ k : Fin 256, kron eye r (ix2 i k) * f k
      = ∑ k : Fin 16, (r (ix2 ⟨i.val % 16, by omega⟩ k) * f ⟨i.val / 16 * 16 + k.val, by omega⟩ : EReal) := by
  rw [← (finProdFinEquiv (m := 16) (n := 16)).sum_comp, Fintype.sum_prod_type,
    Finset.sum_eq_single (⟨i.val / 16, by omega⟩ : Fin 16)]
  · refine Finset.sum_congr rfl fun k _ => ?_
    have hk : finProdFinEquiv ((⟨i.val / 16, by omega⟩ : Fin 16), k) = (⟨i.val / 16 * 16 + k.val, by omega⟩ : Fin 256) :=
      Fin.ext (by simp only [finProdFinEquiv_apply_val]; omega)
    have hm : (⟨(i.val / 16 * 16 + k.val) % 16, by omega⟩ : Fin 16) = k := Fin.ext (by simp only; omega)
    rw [hk, kron_at, eye_at, if_pos (Fin.ext (by simp only; omega)), one_mul, hm]
  · intro a _ ha
    refine Finset.sum_eq_zero fun k _ => ?_
    rw [kron_at, eye_at, if_neg, zero_mul, zero_mul]
    intro h
    refine ha (Fin.ext ?_)
    have hv : i.val / 16 = (k.val + 16 * a.val) / 16 := congrArg Fin.val h
    show a.val = i.val / 16
    omega
  · exact fun h => absurd (Finset.mem_univ _) h

end Cert.KernelIdeal.Rotation

end
-- ==== Proof.Arrays.lean ====
/-
  The kernel's three result arrays after its run, at extended reals, as functions of the arguments: each grid point's blocks
  (BlockAt.lean) at their place in the arrays, with the rotation of Rotation.lean.
-/
module

public import proofs.«01_k».proof.Proof.BlockAt
public import proofs.«01_k».proof.Proof.Rotation

@[expose] public section

set_option maxRecDepth 16384

noncomputable section

namespace Cert.KernelIdeal.Arrays

open Idealize.ShloMosaic Cert.KernelIdeal Cert.KernelIdeal.Gen Idealize.ShloMosaic.Tactic Idealize.ShloMosaic.TcCoe
open Cert.KernelIdeal.Power Cert.KernelIdeal.Encode Cert.KernelIdeal.Pack Cert.KernelIdeal.Body Cert.KernelIdeal.Rotation
open Cert.ReferenceIdeal.Body (common parity hadamard rotate rotated)

variable (m : (ℓ : Loc nD τ sig) → Buf (Elt Ideal) ℓ) (c : Dev nD)

theorem idx0 : ∀ t : Fin cfg0.N, win0_0.index t = ![0, 0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)

theorem points (t : Fin cfg0.N) : t.val < 56 := t.isLt

/-- The tokens and the random bytes, and the rotated tokens. -/
abbrev tokens : FVec Ideal S1x1536x28672 .bf16 := m ((c : Thread nD τ).loc main_arg0)
abbrev signs : FVec Ideal S16 .f32 := m ((c : Thread nD τ).loc main_arg1)
abbrev random : IVec S1x28672x1536 8 := m ((c : Thread nD τ).loc main_arg2)
def turnedAll : FVec Ideal S1x28672x1536 .f32 := rotated (tokens m c) (signs m c)

theorem tokens_block (t : Fin cfg0.N) (a : Fin 1536) (ch : Fin 512) :
    iblk m c 0 t (ix3 0 a ch) = tokens m c (ix3 0 a ⟨512 * t.val + ch.val, by have := points t; omega⟩) := by
  blk_simp [iblk]
  rw [V_main_arg0]
  blk_ext [idx0 t]

theorem matrix_block (t : Fin cfg0.N) (i k : Fin 256) :
    iblk m c 1 t (ix2 i k) = kron eye (hadamard (parity common) (signs m c)) (ix2 i k) := by
  rw [← xorParity_eq, signs, ← matrix_eq m c]
  blk_simp [iblk]
  blk_ext [idx1 t]

theorem random_block (t : Fin cfg0.N) (ch : Fin 512) (a : Fin 1536) :
    iblk m c 2 t (ix3 0 ch a) = random m c (ix3 0 ⟨512 * t.val + ch.val, by have := points t; omega⟩ a) := by
  blk_simp [iblk]
  rw [V_main_arg2]
  blk_ext [idx2 t]

/-- A point's product is the rotated tokens. -/
theorem turned_block (t : Fin cfg0.N) (ch : Fin 512) (a : Fin 1536) :
    turned (iblk m c 0 t) (iblk m c 1 t) ch a = turnedAll m c (ix3 0 ⟨512 * t.val + ch.val, by have := points t; omega⟩ a) := by
  rw [turnedAll, rotated, rotate_at, turned]
  simp only [tokens_block, matrix_block]
  rw [sum_kron _ (fun k => tokens m c (ix3 0 ⟨a.val / 256 * 256 + k.val, by omega⟩ ⟨512 * t.val + ch.val, by have := points t; omega⟩))]
  refine Finset.sum_congr rfl fun k _ => ?_
  congr 1
  · exact congrArg (fun i => hadamard (F := Ideal) (parity common) (signs m c) (ix2 i k)) (Fin.ext (by simp only; omega))
  · exact congrArg (fun i => tokens m c (ix3 0 i ⟨512 * t.val + ch.val, by have := points t; omega⟩)) (Fin.ext (by simp only; omega))

/-- The 32 rotated tokens of a block. -/
def columnAll (ch : Fin 28672) (b : Fin 48) (t : Fin 32) : EReal := turnedAll m c (ix3 0 ch ⟨b.val * 32 + t.val, by omega⟩)

theorem column_block (t : Fin cfg0.N) (ch : Fin 512) (b : Fin 48) :
    column (iblk m c 0 t) (iblk m c 1 t) ch b = columnAll m c ⟨512 * t.val + ch.val, by have := points t; omega⟩ b := by
  funext k
  rw [column, turned_block, columnAll]
  exact congrArg (fun a => turnedAll m c (ix3 0 _ a)) (Fin.ext (by simp only; omega))

/-- The byte of two neighbouring tokens. -/
def byteAll (ch : Fin 28672) (p : Fin 768) : BitVec 8 :=
  byteAt (scaleAt (columnAll m c ch ⟨p.val / 16, by omega⟩))
    (turnedAll m c (ix3 0 ch ⟨2 * p.val, by omega⟩)) (turnedAll m c (ix3 0 ch ⟨2 * p.val + 1, by omega⟩))
    (BitVec.setWidth 16 (random m c (ix3 0 ch ⟨2 * p.val, by omega⟩))) (BitVec.setWidth 16 (random m c (ix3 0 ch ⟨2 * p.val + 1, by omega⟩)))

theorem byte_block (t : Fin cfg0.N) (ch : Fin 512) (p : Fin 768) :
    bytePair (iblk m c 0 t) (iblk m c 1 t) (iblk m c 2 t) ch p = byteAll m c ⟨512 * t.val + ch.val, by have := points t; omega⟩ p := by
  rw [bytePair, column_block, turned_block, turned_block, random_block, random_block, byteAll]

/-- The array of largest magnitudes. -/
theorem amax_array : (dats m 0 c).arrAt 3 cfg0.N = fun j : S1x28672x48.Idx => (largest (columnAll m c (j 1) (j 2)) : EReal) := by
  refine (dats m 0 c).arrAt_eq_of_covers 3 _ (by decide +kernel) fun t hf y => ?_
  blk_simp
  rw [after0_3, outsAt0]
  dsimp only
  rw [amax_block]
  refine (congrArg largest (column_block m c t (y 1) (y 2))).trans ?_
  have h1 : (⟨512 * t.val + (y 1).val, by have := points t; have : (y 1).val < 512 := (y 1).isLt; omega⟩ : Fin 28672)
      = (win0_3.blk t).view.emb y 1 := Fin.ext (by show 512 * t.val + (y 1).val = _; blk_simp [idx3 t]; omega)
  have h2 : y 2 = (win0_3.blk t).view.emb y 2 := Fin.ext (by blk_simp [idx3 t])
  exact congrArg largest (congrArg₂ (columnAll m c) h1 h2)

/-- The array of codes. -/
theorem code_array : (dats m 0 c).arrAt 4 cfg0.N = fun j : S1x28672x768.Idx => byteAll m c (j 1) (j 2) := by
  refine (dats m 0 c).arrAt_eq_of_covers 4 _ (by decide +kernel) fun t hf y => ?_
  blk_simp
  rw [after0_4, outsAt0]
  dsimp only
  rw [code_block]
  refine (byte_block m c t (y 1) (y 2)).trans ?_
  have h1 : (⟨512 * t.val + (y 1).val, by have := points t; have : (y 1).val < 512 := (y 1).isLt; omega⟩ : Fin 28672)
      = (win0_4.blk t).view.emb y 1 := Fin.ext (by show 512 * t.val + (y 1).val = _; blk_simp [idx4 t]; omega)
  have h2 : y 2 = (win0_4.blk t).view.emb y 2 := Fin.ext (by blk_simp [idx4 t])
  exact congrArg₂ (byteAll m c) h1 h2

/-- The array of scale bytes. -/
theorem scale_array : (dats m 0 c).arrAt 5 cfg0.N = fun j : S1x28672x48.Idx => BitVec.setWidth 8 (scaleAt (columnAll m c (j 1) (j 2))) := by
  refine (dats m 0 c).arrAt_eq_of_covers 5 _ (by decide +kernel) fun t hf y => ?_
  blk_simp
  rw [after0_5, outsAt0]
  dsimp only
  rw [scale_block]
  refine (congrArg (fun f => BitVec.setWidth 8 (scaleAt f)) (column_block m c t (y 1) (y 2))).trans ?_
  have h1 : (⟨512 * t.val + (y 1).val, by have := points t; have : (y 1).val < 512 := (y 1).isLt; omega⟩ : Fin 28672)
      = (win0_5.blk t).view.emb y 1 := Fin.ext (by show 512 * t.val + (y 1).val = _; blk_simp [idx5 t]; omega)
  have h2 : y 2 = (win0_5.blk t).view.emb y 2 := Fin.ext (by blk_simp [idx5 t])
  exact congrArg (fun f => BitVec.setWidth 8 (scaleAt f)) (congrArg₂ (columnAll m c) h1 h2)

end Cert.KernelIdeal.Arrays

end
-- ==== Proof.Quantise.lean ====
/-
  One element's code and one block's scale byte as the reference computes them, on extended reals, and their values.

  `exponent` is a block's shared exponent, `scaleByte` its byte, `nibbleWord` an element's code with its sign. For a block
  whose largest magnitude is zero or in the range of the scale, the exponent is the kernel's scale word less 127
  (`exponent_scale`), so the byte is the kernel's (`scaleByte_eq`), and the code is the kernel's (`nibbleWord_eq`).
-/
module

public import proofs.«01_k».proof.Proof.Encode
public import proofs.«01_k».proof.Proof.Pack
public import Idealize.ShloMosaic.Lib.IdealHost

@[expose] public section

noncomputable section

namespace Cert.ReferenceIdeal.Quantise

open Idealize.ShloMosaic Cert.KernelIdeal.Power Cert.KernelIdeal.Code Cert.KernelIdeal.Encode Cert.KernelIdeal.Pack

/-- A block's shared exponent from its largest magnitude. -/
def exponent (m : EReal) : EReal :=
  if 0 < m then Ideal.liftRound Int.floor (Ideal.div (Ideal.log m) (Ideal.log (Ideal.ofBits FTy.f32 1073741824#32)))
    - Ideal.ofBits FTy.f32 1073741824#32 else 0

/-- A block's scale byte from its shared exponent. -/
def scaleByte (e : EReal) : BitVec 8 := BitVec.setWidth 8 (IntOp.addi (Ideal.fptosi 32 e) 127#32)

/-- An element over its scale, clipped. -/
def scaled (w e : EReal) : EReal :=
  min (Ideal.ofBits FTy.f32 1086324736#32) (max (Ideal.ofBits FTy.f32 3233808384#32)
    (w * Ideal.pow (Ideal.ofBits FTy.f32 1073741824#32) (-e)))

/-- The distance between the grid's neighbours. -/
def spacing (a : EReal) : EReal :=
  if a < Ideal.ofBits FTy.f32 1073741824#32 then Ideal.ofBits FTy.f32 1056964608#32
  else if a < Ideal.ofBits FTy.f32 1082130432#32 then 1 else Ideal.ofBits FTy.f32 1073741824#32

/-- The neighbour below. -/
def lower (a s : EReal) : EReal := Ideal.liftRound Int.floor (Ideal.div a s) * s

/-- The rounded magnitude. -/
def roundUp (a s l : EReal) (b : BitVec 8) : EReal :=
  l + s * (((BitVec.ofBool (decide
    (((((BitVec.setWidth 32 b).toInt : ℝ) : EReal)) + Ideal.ofBits FTy.f32 1056964608#32
      < Ideal.div (a - l) s * Ideal.ofBits FTy.f32 1132462080#32))).toNat : ℝ) : EReal)

/-- The grid's index. -/
def index (q : EReal) : BitVec 32 :=
  Ideal.fptosi 32 (if q < Ideal.ofBits FTy.f32 1073741824#32 then Ideal.ofBits FTy.f32 1073741824#32 * q
    else if q < Ideal.ofBits FTy.f32 1082130432#32 then q + Ideal.ofBits FTy.f32 1073741824#32
    else q * Ideal.ofBits FTy.f32 1056964608#32 + Ideal.ofBits FTy.f32 1082130432#32)

/-- The index with the sign. -/
def signed (y : EReal) (n : BitVec 32) : BitVec 32 :=
  Scalar.select (IntOp.andi (BitVec.ofBool (decide (y < 0))) (IntOp.cmpi CmpIPredicate.sgt n 0#32)) (IntOp.ori n 8#32) n

/-- An element's code from itself, its block's exponent and its random byte. -/
def nibbleWord (w e : EReal) (b : BitVec 8) : BitVec 32 :=
  let y := scaled w e
  let a := max y (-y)
  signed y (index (roundUp a (spacing a) (lower a (spacing a)) b))

theorem two_eq : Ideal.ofBits FTy.f32 1073741824#32 = ((2 : ℝ) : EReal) := by
  refine (power_eq (E := 128) (by omega) (by omega)).trans ?_; norm_num

theorem half_eq : Ideal.ofBits FTy.f32 1056964608#32 = ((1 / 2 : ℝ) : EReal) := by
  refine (power_eq (E := 126) (by omega) (by omega)).trans ?_; norm_num

theorem four_eq : Ideal.ofBits FTy.f32 1082130432#32 = ((4 : ℝ) : EReal) := by
  refine (power_eq (E := 129) (by omega) (by omega)).trans ?_; norm_num

theorem unit_eq : Ideal.ofBits FTy.f32 1132462080#32 = ((256 : ℝ) : EReal) := by
  refine (power_eq (E := 135) (by omega) (by omega)).trans ?_; norm_num

theorem six_eq : Ideal.ofBits FTy.f32 1086324736#32 = ((6 : ℝ) : EReal) := by
  have h1 : (1086324736#32 : BitVec 32).extractLsb' 31 1 = 0#1 := by decide
  have h2 : ((1086324736#32 : BitVec 32).extractLsb' 23 8).toNat = 129 := by decide
  have h3 : ((1086324736#32 : BitVec 32).extractLsb' 0 23).toNat = 4194304 := by decide
  simp only [Ideal.ofBits, Ideal.ieee, Nat.reduceAdd, h1, h2, h3]
  norm_num [show ((0#1 : BitVec 1) == 1#1) = false from rfl]

theorem neg_six_eq : Ideal.ofBits FTy.f32 3233808384#32 = ((-6 : ℝ) : EReal) := by
  have h1 : (3233808384#32 : BitVec 32).extractLsb' 31 1 = 1#1 := by decide
  have h2 : ((3233808384#32 : BitVec 32).extractLsb' 23 8).toNat = 129 := by decide
  have h3 : ((3233808384#32 : BitVec 32).extractLsb' 0 23).toNat = 4194304 := by decide
  simp only [Ideal.ofBits, Ideal.ieee, Nat.reduceAdd, h1, h2, h3]
  norm_num [show ((1#1 : BitVec 1) == 1#1) = true from rfl]

theorem exponent_zero : exponent 0 = 0 := by rw [exponent, if_neg (lt_irrefl _)]

/-- Between two powers of two the exponent is two below the lower one's. -/
theorem exponent_pos (m : ℝ) (k : ℤ) (h1 : (2 : ℝ) ^ k ≤ m) (h2 : m < (2 : ℝ) ^ (k + 1)) :
    exponent (m : EReal) = (((k - 2 : ℤ) : ℝ) : EReal) := by
  have hm : 0 < m := lt_of_lt_of_le (by positivity) h1
  have hl : 0 < Real.log 2 := Real.log_pos (by norm_num)
  have hk : ⌊Real.log m * (1 / Real.log 2)⌋ = k := by
    rw [mul_one_div, Int.floor_eq_iff, le_div_iff₀ hl, div_lt_iff₀ hl]
    constructor
    · rw [← Real.log_zpow]; exact Real.log_le_log (by positivity) h1
    · have := Real.log_lt_log hm h2
      rw [Real.log_zpow] at this; push_cast at this; exact this
  rw [exponent, if_pos (EReal.coe_pos.mpr hm), two_eq, Ideal.log_coe, Ideal.log_coe, if_neg (not_le.mpr hm),
    if_neg (by norm_num), Ideal.div_coe hl.ne', ← EReal.coe_mul, Ideal.liftRound_coe, hk, ← EReal.coe_sub]
  push_cast; rfl

/-- A real between two powers of the search. -/
theorem power_le_iff {E : ℕ} (h1 : 1 ≤ E) (h2 : E ≤ 254) (m : ℝ) : power E ≤ (m : EReal) ↔ (2 : ℝ) ^ ((E : ℤ) - 127) ≤ m := by
  rw [power_eq h1 h2, EReal.coe_le_coe_iff]

theorem exists_power (m : EReal) (h1 : power 1 ≤ m) (h2 : m < power 255) :
    ∃ E : ℕ, 1 ≤ E ∧ E ≤ 254 ∧ power E ≤ m ∧ m < power (E + 1) := by
  by_contra hn
  push Not at hn
  have key : ∀ E : ℕ, 1 ≤ E → E ≤ 255 → power E ≤ m := by
    intro E hE
    induction E, hE using Nat.le_induction with
    | base => intro _; exact h1
    | succ E hE ih => intro h; exact hn E hE (by omega) (ih (by omega))
  exact absurd (key 255 (by omega) le_rfl) (not_le.mpr h2)

/-- A block in the range of the codes has a scale `2 ^ (B - 127)` which both programs find. -/
theorem exponent_scale (m : EReal) (h : m = 0 ∨ (power 2 ≤ m ∧ m ≤ power 254)) :
    ∃ B : ℕ, B ≤ 252 ∧ exponent m = ((((B : ℤ) - 127 : ℤ) : ℝ) : EReal) ∧
      scaleOf (search m) m = BitVec.ofNat 32 B ∧ m < ((8 * (2 : ℝ) ^ ((B : ℤ) - 127) : ℝ) : EReal) ∧
      (B = 252 → m ≤ ((4 * (2 : ℝ) ^ ((B : ℤ) - 127) : ℝ) : EReal)) := by
  rcases h with rfl | ⟨h1, h2⟩
  · exact ⟨127, by omega, by rw [exponent_zero]; norm_num, scaleOf_zero _, by
      rw [show ((127 : ℕ) : ℤ) - 127 = 0 by norm_num]
      exact EReal.coe_lt_coe_iff.mpr (by norm_num : (0 : ℝ) < 8 * 2 ^ (0 : ℤ)), fun h => absurd h (by omega)⟩
  · obtain ⟨E, e1, e2, e3, e4⟩ := exists_power m (le_trans (power_le (by omega) (by omega)) h1)
      (lt_of_le_of_lt h2 (power_lt (by omega) (by omega)))
    have hE1 : 2 ≤ E := by
      by_contra hc
      exact absurd (lt_of_lt_of_le e4 (power_le (show E + 1 ≤ 2 by omega) (by omega))) (not_lt.mpr h1)
    have hm0 : 0 < m := lt_of_lt_of_le (by rw [← power_zero]; exact power_lt (by omega) (by omega)) e3
    obtain ⟨r, rfl⟩ : ∃ r : ℝ, m = (r : EReal) :=
      ⟨m.toReal, (EReal.coe_toReal (ne_of_lt (lt_of_lt_of_le e4 le_top)) (ne_of_gt (lt_trans EReal.bot_lt_zero hm0))).symm⟩
    rw [power_eq e1 e2, EReal.coe_le_coe_iff] at e3
    have e4' : r < (2 : ℝ) ^ ((E + 1 : ℕ) - 127 : ℤ) := by
      rcases Nat.eq_or_lt_of_le e2 with rfl | e2'
      · rw [power_eq (by omega) (by omega), EReal.coe_le_coe_iff] at h2
        exact lt_of_le_of_lt h2 (zpow_lt_zpow_right₀ (by norm_num) (by norm_num))
      · rw [power_eq (by omega) (by omega), EReal.coe_lt_coe_iff] at e4
        exact e4
    refine ⟨E - 2, by omega, ?_, ?_, ?_, ?_⟩
    · rw [exponent_pos r ((E : ℤ) - 127) e3 (by rw [show ((E : ℤ) - 127 + 1) = ((E + 1 : ℕ) : ℤ) - 127 by push_cast; ring]; exact e4')]
      congr 2; omega
    · rw [scaleOf_pos e2 hm0 (by rw [power_eq e1 e2, EReal.coe_le_coe_iff]; exact e3) e4,
        show (E : ℤ) - 2 = ((E - 2 : ℕ) : ℤ) by omega]
      exact BitVec.ofInt_natCast 32 _
    · rw [EReal.coe_lt_coe_iff]
      refine lt_of_lt_of_eq e4' ?_
      rw [show (8 : ℝ) = 2 ^ (3 : ℤ) by norm_num, ← zpow_add₀ (by norm_num)]
      congr 1; omega
    · intro hB
      rw [power_eq (by omega) (by omega)] at h2
      refine h2.trans (le_of_eq ?_)
      rw [show (4 : ℝ) = 2 ^ (2 : ℤ) by norm_num, ← zpow_add₀ (by norm_num), hB]
      norm_num

theorem fptosi_int (k : ℤ) (h1 : -(2 ^ 31) ≤ k) (h2 : k ≤ 2 ^ 31 - 1) : Ideal.fptosi 32 ((k : ℝ) : EReal) = BitVec.ofInt 32 k := by
  rw [Ideal.fptosi, Ideal.toIntClamped_coe]
  congr 1
  have : (if 0 ≤ ((k : ℝ)) then ⌊(k : ℝ)⌋ else ⌈(k : ℝ)⌉) = k := by
    split <;> simp
  rw [this]; norm_num; omega

/-- A block in the range of the scale bytes has the kernel's byte. -/
theorem scaleByte_eq (m : EReal) (h : m = 0 ∨ ((((2 : ℝ) ^ (-127 : ℤ) : ℝ) : EReal) ≤ m ∧ m < (((2 : ℝ) ^ (128 : ℤ) : ℝ) : EReal))) :
    scaleByte (exponent m) = BitVec.setWidth 8 (scaleOf (search m) m) := by
  rcases h with rfl | ⟨h1, h2⟩
  · rw [exponent_zero, scaleOf_zero, scaleByte, show (0 : EReal) = (((0 : ℤ) : ℝ) : EReal) by norm_num,
      fptosi_int 0 (by norm_num) (by norm_num)]
    rfl
  · have hm0 : 0 < m := lt_of_lt_of_le (EReal.coe_pos.mpr (by positivity)) h1
    have main : ∀ (k : ℤ) (E : ℕ), E ≤ 254 → power E ≤ m → m < power (E + 1) →
        exponent m = (((k - 2 : ℤ) : ℝ) : EReal) → k - 2 + 127 = (E : ℤ) - 2 →
        scaleByte (exponent m) = BitVec.setWidth 8 (scaleOf (search m) m) := by
      intro k E hE p1 p2 he hk
      rw [he, scaleByte, fptosi_int _ (by omega) (by omega), scaleOf_pos hE hm0 p1 p2, ← hk, BitVec.ofInt_add]
      rfl
    obtain ⟨r, rfl⟩ : ∃ r : ℝ, m = (r : EReal) :=
      ⟨m.toReal, (EReal.coe_toReal (ne_of_lt (lt_of_lt_of_le h2 le_top)) (ne_of_gt (lt_trans EReal.bot_lt_zero hm0))).symm⟩
    rcases lt_or_ge (r : EReal) (power 1) with hs | hs
    · refine main (-127) 0 (by omega) (by rw [power_zero]; exact hm0.le) hs (exponent_pos r _ (EReal.coe_le_coe_iff.mp h1) ?_) (by norm_num)
      rw [power_eq (by omega) (by omega), EReal.coe_lt_coe_iff] at hs
      exact hs
    · obtain ⟨E, e1, e2, e3, e4⟩ := exists_power _ hs (by rw [power_top]; exact EReal.coe_lt_top r)
      refine main ((E : ℤ) - 127) E e2 e3 e4 (exponent_pos r _ ((power_le_iff e1 e2 r).mp e3) ?_) (by ring)
      rcases Nat.eq_or_lt_of_le e2 with rfl | e2'
      · exact EReal.coe_lt_coe_iff.mp h2
      · rw [power_eq (by omega) (by omega), EReal.coe_lt_coe_iff] at e4
        rw [show ((E : ℤ) - 127 + 1) = ((E + 1 : ℕ) : ℤ) - 127 by push_cast; ring]; exact e4

theorem coe_max (x y : ℝ) : max (x : EReal) (y : EReal) = ((max x y : ℝ) : EReal) :=
  (EReal.coe_strictMono.monotone.map_max).symm

theorem coe_min (x y : ℝ) : min (x : EReal) (y : EReal) = ((min x y : ℝ) : EReal) :=
  (EReal.coe_strictMono.monotone.map_min).symm

theorem scaled_eq (y : ℝ) (k : ℤ) : scaled ((y * (2 : ℝ) ^ k : ℝ) : EReal) ((k : ℝ) : EReal) = ((min 6 (max (-6) y) : ℝ) : EReal) := by
  rw [scaled, six_eq, neg_six_eq, two_eq, ← EReal.coe_neg, Ideal.pow_coe_coe, ← EReal.coe_mul]
  have : y * (2 : ℝ) ^ k * Real.rpow 2 (-(k : ℝ)) = y := by
    have e : Real.rpow 2 (-(k : ℝ)) = (2 : ℝ) ^ (-k) := by
      have := Real.rpow_intCast (2 : ℝ) (-k)
      push_cast at this; exact this
    rw [e, mul_assoc, ← zpow_add₀ (by norm_num), add_neg_cancel, zpow_zero, mul_one]
  rw [this, coe_max, coe_min]

theorem spacing_eq (a : ℝ) : spacing (a : EReal) = ((gridStep a : ℝ) : EReal) := by
  unfold spacing gridStep
  rw [two_eq, half_eq, four_eq]
  simp only [EReal.coe_lt_coe_iff]
  split_ifs <;> norm_num

theorem gridStep_pos (a : ℝ) : 0 < gridStep a := by
  unfold gridStep; split_ifs <;> norm_num

theorem lower_eq (a : ℝ) : lower (a : EReal) ((gridStep a : ℝ) : EReal) = ((below a : ℝ) : EReal) := by
  rw [lower, Ideal.div_coe (gridStep_pos a).ne', ← EReal.coe_mul, Ideal.liftRound_coe, ← EReal.coe_mul, mul_one_div]
  rfl

theorem byte_toInt (b : BitVec 8) : ((BitVec.setWidth 32 b).toInt : ℝ) = (b.toNat : ℝ) := by
  have h : (BitVec.setWidth 32 b).toInt = (b.toNat : ℤ) := by
    have := b.isLt
    rw [BitVec.toInt_eq_toNat_of_lt (by rw [BitVec.toNat_setWidth]; omega), BitVec.toNat_setWidth,
      Nat.mod_eq_of_lt (by omega)]
  rw [h]; norm_cast

theorem roundUp_eq (a : ℝ) (b : BitVec 8) :
    roundUp (a : EReal) ((gridStep a : ℝ) : EReal) ((below a : ℝ) : EReal) b = ((rounded a b.toNat : ℝ) : EReal) := by
  rw [roundUp, byte_toInt, half_eq, unit_eq, ← EReal.coe_add, ← EReal.coe_sub, Ideal.div_coe (gridStep_pos a).ne', ← EReal.coe_mul,
    ← EReal.coe_mul, mul_one_div]
  rw [← EReal.coe_mul, ← EReal.coe_add, rounded]
  congr 3
  split_ifs with h
  · rw [decide_eq_true (EReal.coe_lt_coe_iff.mpr h)]; norm_num; rfl
  · rw [decide_eq_false (fun h' => h (EReal.coe_lt_coe_iff.mp h'))]; norm_num

theorem index_eq (q : ℝ) (n : ℤ) (h : gridIndex q = (n : ℝ)) (h1 : -(2 ^ 31) ≤ n) (h2 : n ≤ 2 ^ 31 - 1) :
    index (q : EReal) = BitVec.ofInt 32 n := by
  rw [← fptosi_int n h1 h2, ← h, index, two_eq, half_eq, four_eq, gridIndex]
  simp only [EReal.coe_lt_coe_iff]
  split_ifs <;> norm_cast

theorem signed_nat : ∀ q : Fin 9, ∀ neg : Bool,
    Scalar.select (IntOp.andi (BitVec.ofBool neg) (IntOp.cmpi CmpIPredicate.sgt (BitVec.ofNat 32 (clip7 q.val)) 0#32))
      (IntOp.ori (BitVec.ofNat 32 (clip7 q.val)) 8#32) (BitVec.ofNat 32 (clip7 q.val)) = BitVec.ofNat 32 (nibble q.val neg) := by
  decide +kernel

/-- The reference's code of an element is the kernel's. -/
theorem nibbleWord_eq {B : ℕ} (hB : B ≤ 252) (w : EReal) (e : EReal) (b : BitVec 8)
    (he : e = ((((B : ℤ) - 127 : ℤ) : ℝ) : EReal)) (hw : max w (-w) < ((8 * (2 : ℝ) ^ ((B : ℤ) - 127) : ℝ) : EReal))
    (h4 : B = 252 → max w (-w) ≤ ((4 * (2 : ℝ) ^ ((B : ℤ) - 127) : ℝ) : EReal)) :
    (fine (max w (-w)) (BitVec.ofNat 32 B) (b.setWidth 16)).toNat / 256 ≤ 8 ∧
    nibbleWord w e b = BitVec.ofNat 32
      (nibble ((fine (max w (-w)) (BitVec.ofNat 32 B) (b.setWidth 16)).toNat / 256) (decide (w < 0))) := by
  obtain ⟨x, rfl⟩ : ∃ x : ℝ, w = (x : EReal) :=
    ⟨w.toReal, (EReal.coe_toReal (ne_of_lt (lt_of_le_of_lt (le_max_left _ _) (lt_trans hw (EReal.coe_lt_top _))))
      (by rintro rfl; rw [EReal.neg_bot, max_eq_right bot_le] at hw; exact absurd hw (not_lt.mpr le_top))).symm⟩
  have ht : (0 : ℝ) < (2 : ℝ) ^ ((B : ℤ) - 127) := by positivity
  obtain ⟨y, hy⟩ : ∃ y : ℝ, x = y * (2 : ℝ) ^ ((B : ℤ) - 127) := ⟨x / (2 : ℝ) ^ ((B : ℤ) - 127), by field_simp⟩
  have habs : max (x : EReal) (-(x : EReal)) = ((|x| : ℝ) : EReal) := by
    rw [← EReal.coe_neg, coe_max]; rfl
  rw [habs] at hw h4 ⊢
  have hax : |x| = |y| * (2 : ℝ) ^ ((B : ℤ) - 127) := by rw [hy, abs_mul, abs_of_pos ht]
  have hy8 : |y| < 8 := by
    rw [EReal.coe_lt_coe_iff, hax] at hw
    exact lt_of_mul_lt_mul_right hw ht.le
  have hy4 : B = 252 → |y| ≤ 4 := fun h => by
    have h4 := h4 h
    rw [EReal.coe_le_coe_iff, hax] at h4
    exact le_of_mul_le_mul_right h4 ht
  have hr : b.toNat ≤ 255 := by have := b.isLt; omega
  have hf := fine_code hB |x| |y| (abs_nonneg y) hy8 hy4 hax b
  obtain ⟨hc, hq⟩ := clip_round |y| b.toNat _ hr (abs_nonneg y) hy8 hf
  refine ⟨hq, ?_⟩
  generalize (fine ((|x| : ℝ) : EReal) (BitVec.ofNat 32 B) (b.setWidth 16)).toNat / 256 = q at hc hq
  have hclip : clip7 q ≤ 8 := le_trans (Nat.sub_le _ _) hq
  have hclamp : max (min 6 (max (-6) y)) (-(min 6 (max (-6) y))) = min |y| 6 := by
    rcases le_total 0 y with h | h
    · rw [abs_of_nonneg h, max_eq_right (by linarith : (-6 : ℝ) ≤ y), min_comm, max_eq_left]
      have : 0 ≤ min y 6 := le_min h (by norm_num)
      linarith
    · rw [abs_of_nonpos h, min_eq_right (max_le (by norm_num) (by linarith)), max_eq_right]
      · rcases le_total (-6) y with h6 | h6
        · rw [max_eq_right h6, min_eq_left (by linarith)]
        · rw [max_eq_left h6, min_eq_right (by linarith)]; norm_num
      · have : max (-6) y ≤ 0 := max_le (by norm_num) h
        linarith
  have hneg : decide (((min 6 (max (-6) y) : ℝ) : EReal) < 0) = decide ((x : EReal) < 0) := by
    have : (((min 6 (max (-6) y) : ℝ) : EReal) < 0) ↔ ((x : EReal) < 0) := by
      rw [← EReal.coe_zero, EReal.coe_lt_coe_iff, EReal.coe_lt_coe_iff, hy]
      constructor
      · intro h
        have : y < 0 := by
          by_contra hn
          have : 0 ≤ min 6 (max (-6) y) := le_min (by norm_num) (le_max_of_le_right (not_lt.mp hn))
          linarith
        exact mul_neg_of_neg_of_pos this ht
      · intro h
        have : y < 0 := by
          by_contra hn
          have := mul_nonneg (not_lt.mp hn) ht.le
          linarith
        exact min_lt_of_right_lt (max_lt (by norm_num) this)
    exact decide_eq_decide.mpr this
  rw [nibbleWord]
  rw [he, hy, scaled_eq, ← EReal.coe_neg, coe_max, hclamp, spacing_eq, lower_eq, roundUp_eq,
    index_eq _ _ (refIndex_eq (min |y| 6) b.toNat (le_min (abs_nonneg y) (by norm_num)) (min_le_right _ _))
      (by rw [← hc]; omega) (by rw [← hc]; omega), ← hc, signed, hneg, ← hy, BitVec.ofInt_natCast]
  exact signed_nat ⟨q, by omega⟩ _

end Cert.ReferenceIdeal.Quantise

end
-- ==== Proof.RefAt.lean ====
/-
  The functions of RefBody.lean at an index, over extended reals: a block's largest magnitude is the maximum over the
  block's tokens, its scale byte and its tokens' codes are the functions of Quantise.lean.
-/
module

public import proofs.«01_k».proof.Proof.RefBody
public import proofs.«01_k».proof.Proof.Quantise
public import proofs.«01_k».proof.Proof.SearchAt
public import Idealize.ShloMosaic.Lib.Pointwise
public import Idealize.ShloMosaic.Lib.Pipeline.ValueKit
public import Idealize.ShloMosaic.Lib.IdealHost

@[expose] public section

set_option maxRecDepth 16384

noncomputable section

namespace Cert.ReferenceIdeal.Body

open Idealize.ShloMosaic Cert.ReferenceIdeal Cert.ReferenceIdeal.Gen Idealize.ShloMosaic.Tactic
open Cert.KernelIdeal.Body (largest)

theorem blocks_at (w : FVec Ideal S1x28672x1536 .f32) (i : Fin 1) (ch : Fin 28672) (b : Fin 48) (t : Fin 32) :
    blocks w (ix4 i ch b t) = w (ix3 0 ch ⟨b.val * 32 + t.val, by omega⟩) := by
  pointwise [blocks]

theorem amaxBlocks_at (w : FVec Ideal S1x28672x48x32 .f32) (i : Fin 1) (ch : Fin 28672) (b : Fin 48) :
    amax w (ix3 i ch b) = largest fun t => w (ix4 0 ch b t) := by
  pointwise [amax]
  rfl

/-- A block's largest magnitude. -/
theorem amax_at (w : FVec Ideal S1x28672x1536 .f32) (i : Fin 1) (ch : Fin 28672) (b : Fin 48) :
    amax (blocks w) (ix3 i ch b) = largest fun t => w (ix3 0 ch ⟨b.val * 32 + t.val, by omega⟩) :=
  (amaxBlocks_at _ i ch b).trans (congrArg largest (funext fun t => blocks_at w 0 ch b t))

theorem sharedExp_at (m : FVec Ideal S1x28672x48 .f32) (i : Fin 1) (ch : Fin 28672) (b : Fin 48) :
    sharedExp m (ix3 i ch b) = Quantise.exponent (m (ix3 i ch b)) := by
  pointwise [sharedExp, id_eq]
  rfl

theorem scaleByte_at (e : FVec Ideal S1x28672x48 .f32) (i : Fin 1) (ch : Fin 28672) (b : Fin 48) :
    scaleByte e (ix3 i ch b) = Quantise.scaleByte (e (ix3 i ch b)) := by
  pointwise [scaleByte]
  rfl

theorem scaled_at (w : FVec Ideal S1x28672x48x32 .f32) (e : FVec Ideal S1x28672x48 .f32)
    (ch : Fin 28672) (b : Fin 48) (t : Fin 32) :
    scaled w e (ix4 0 ch b t) = Quantise.scaled (w (ix4 0 ch b t)) (e (ix3 0 ch b)) := by
  pointwise [scaled, id_eq]
  rfl

theorem spacing_at (a : FVec Ideal S1x28672x48x32 .f32) (ch : Fin 28672) (b : Fin 48) (t : Fin 32) :
    spacing a (ix4 0 ch b t) = Quantise.spacing (a (ix4 0 ch b t)) := by
  pointwise [spacing, id_eq]
  rfl

theorem lower_at (a s : FVec Ideal S1x28672x48x32 .f32) (ch : Fin 28672) (b : Fin 48) (t : Fin 32) :
    lower a s (ix4 0 ch b t) = Quantise.lower (a (ix4 0 ch b t)) (s (ix4 0 ch b t)) := by
  pointwise [lower]
  rfl

theorem rounded_at (a s l : FVec Ideal S1x28672x48x32 .f32) (r : IVec S1x28672x1536 8)
    (ch : Fin 28672) (b : Fin 48) (t : Fin 32) :
    rounded a s l r (ix4 0 ch b t) = Quantise.roundUp (a (ix4 0 ch b t)) (s (ix4 0 ch b t)) (l (ix4 0 ch b t))
      (r (ix3 0 ch ⟨b.val * 32 + t.val, by omega⟩)) := by
  pointwise [rounded]
  rfl

theorem index_at (q : FVec Ideal S1x28672x48x32 .f32) (ch : Fin 28672) (b : Fin 48) (t : Fin 32) :
    index q (ix4 0 ch b t) = Quantise.index (q (ix4 0 ch b t)) := by
  pointwise [index]
  rfl

theorem absf_at (y : FVec Ideal S1x28672x48x32 .f32) (i : Fin 1) (ch : Fin 28672) (b : Fin 48) (t : Fin 32) :
    Host.absf y (ix4 i ch b t) = max (y (ix4 i ch b t)) (-(y (ix4 i ch b t))) := rfl

theorem code_at (y : FVec Ideal S1x28672x48x32 .f32) (n : IVec S1x28672x48x32 32)
    (i : Fin 1) (ch : Fin 28672) (p : Fin 768) (j : Fin 2) :
    code y n (ix4 i ch p j) = Quantise.signed (y (ix4 0 ch ⟨p.val / 16, by omega⟩ ⟨p.val % 16 * 2 + j.val, by omega⟩))
      (n (ix4 0 ch ⟨p.val / 16, by omega⟩ ⟨p.val % 16 * 2 + j.val, by omega⟩)) := by
  pointwise [code]
  rfl

theorem packed_at (c : IVec S1x28672x768x2 32) (i : Fin 1) (ch : Fin 28672) (p : Fin 768) :
    packed c (ix3 i ch p) = BitVec.setWidth 8 (IntOp.ori (c (ix4 0 ch p 0)) (IntOp.shli ArithUnit.host (c (ix4 0 ch p 1)) 4#32)) := by
  pointwise [packed]

/-- A token's code. -/
theorem token_at (w : FVec Ideal S1x28672x48x32 .f32) (e : FVec Ideal S1x28672x48 .f32) (r : IVec S1x28672x1536 8)
    (ch : Fin 28672) (b : Fin 48) (t : Fin 32) :
    Quantise.signed (scaled w e (ix4 0 ch b t))
      (index (rounded (Host.absf (scaled w e)) (spacing (Host.absf (scaled w e)))
        (lower (Host.absf (scaled w e)) (spacing (Host.absf (scaled w e)))) r) (ix4 0 ch b t))
    = Quantise.nibbleWord (w (ix4 0 ch b t)) (e (ix3 0 ch b)) (r (ix3 0 ch ⟨b.val * 32 + t.val, by omega⟩)) := by
  rw [index_at, rounded_at, lower_at, spacing_at, absf_at, scaled_at, Quantise.nibbleWord]

/-- A byte holds the codes of two neighbouring tokens. -/
theorem codes_at (w : FVec Ideal S1x28672x1536 .f32) (e : FVec Ideal S1x28672x48 .f32) (r : IVec S1x28672x1536 8)
    (i : Fin 1) (ch : Fin 28672) (b : Fin 48) (m : Fin 16) :
    codes (blocks w) e r (ix3 i ch ⟨16 * b.val + m.val, by omega⟩) = BitVec.setWidth 8 (IntOp.ori
      (Quantise.nibbleWord (w (ix3 0 ch ⟨b.val * 32 + 2 * m.val, by omega⟩)) (e (ix3 0 ch b)) (r (ix3 0 ch ⟨b.val * 32 + 2 * m.val, by omega⟩)))
      (IntOp.shli ArithUnit.host
        (Quantise.nibbleWord (w (ix3 0 ch ⟨b.val * 32 + (2 * m.val + 1), by omega⟩)) (e (ix3 0 ch b))
          (r (ix3 0 ch ⟨b.val * 32 + (2 * m.val + 1), by omega⟩))) 4#32)) := by
  have hb : (⟨(16 * b.val + m.val) / 16, by omega⟩ : Fin 48) = b := Fin.ext (by simp only; omega)
  have h0 : (⟨(16 * b.val + m.val) % 16 * 2 + (0 : Fin 2).val, by omega⟩ : Fin 32) = ⟨2 * m.val, by omega⟩ :=
    Fin.ext (by simp only [Fin.val_zero]; omega)
  have h1 : (⟨(16 * b.val + m.val) % 16 * 2 + (1 : Fin 2).val, by omega⟩ : Fin 32) = ⟨2 * m.val + 1, by omega⟩ :=
    Fin.ext (by simp only [Fin.val_one]; omega)
  rw [codes, packed_at, code_at, code_at, hb, h0, h1, token_at, token_at, blocks_at, blocks_at]

end Cert.ReferenceIdeal.Body

end
-- ==== Proof.Meet.lean ====
/-
  One block's codes and scale byte: what the kernel computes is what the reference computes, for a block whose largest
  magnitude is in the range that is claimed.
-/
module

public import proofs.«01_k».proof.Proof.Quantise
public import proofs.«01_k».proof.Proof.SearchAt

@[expose] public section

noncomputable section

namespace Cert.Meet

open Idealize.ShloMosaic Cert.KernelIdeal.Power Cert.KernelIdeal.Encode Cert.KernelIdeal.Pack Cert.KernelIdeal.Body
open Cert.ReferenceIdeal

/-- An element's magnitude is at most the block's largest. -/
theorem le_largest (f : Fin 32 → EReal) (t : Fin 32) : max (f t) (-(f t)) ≤ largest f :=
  (Finset.le_fold_max _).mpr (.inr ⟨t, Finset.mem_univ _, le_rfl⟩)

theorem nibble_lt : ∀ q : Fin 9, ∀ s : Bool, nibble q.val s < 16 := by decide

/-- Two four-bit words next to each other. -/
theorem join_nibbles : ∀ a b : Fin 16,
    BitVec.setWidth 8 (IntOp.ori (BitVec.ofNat 32 a.val) (IntOp.shli ArithUnit.host (BitVec.ofNat 32 b.val) 4#32))
      = BitVec.ofNat 8 (a.val + 16 * b.val) := by
  decide +kernel

/-- The byte of two elements of a block in range. -/
theorem byte_eq (f : Fin 32 → EReal) (h : largest f = 0 ∨ (power 2 ≤ largest f ∧ largest f ≤ power 254)) (t0 t1 : Fin 32)
    (b0 b1 : BitVec 8) :
    byteAt (scaleAt f) (f t0) (f t1) (b0.setWidth 16) (b1.setWidth 16)
      = BitVec.setWidth 8 (IntOp.ori (Quantise.nibbleWord (f t0) (Quantise.exponent (largest f)) b0)
          (IntOp.shli ArithUnit.host (Quantise.nibbleWord (f t1) (Quantise.exponent (largest f)) b1) 4#32)) := by
  obtain ⟨B, hB, he, hs, hl, h4⟩ := Quantise.exponent_scale (largest f) h
  obtain ⟨l0, n0⟩ := Quantise.nibbleWord_eq hB (f t0) _ b0 he ((le_largest f t0).trans_lt hl) fun h => (le_largest f t0).trans (h4 h)
  obtain ⟨l1, n1⟩ := Quantise.nibbleWord_eq hB (f t1) _ b1 he ((le_largest f t1).trans_lt hl) fun h => (le_largest f t1).trans (h4 h)
  rw [n0, n1, byteAt, scaleAt, hs, code_bits _ _ l0 l1]
  generalize (fine (max (f t0) (-(f t0))) (BitVec.ofNat 32 B) (b0.setWidth 16)).toNat / 256 = q0 at l0 ⊢
  generalize (fine (max (f t1) (-(f t1))) (BitVec.ofNat 32 B) (b1.setWidth 16)).toNat / 256 = q1 at l1 ⊢
  have e : ∀ w : EReal, signAt w = BitVec.setWidth 16 (if decide (w < 0) then 4294934528#32 else 0#32) := by
    intro w; by_cases hw : w < 0 <;> simp [signAt, hw]
  rw [e, e, sign_bits]
  refine (pack_word ⟨q0, by omega⟩ ⟨q1, by omega⟩ (decide (f t0 < 0)) (decide (f t1 < 0))).trans ?_
  exact (join_nibbles ⟨_, nibble_lt ⟨q0, by omega⟩ (decide (f t0 < 0))⟩ ⟨_, nibble_lt ⟨q1, by omega⟩ (decide (f t1 < 0))⟩).symm

theorem least_scale_eq : Ideal.ofBits FTy.f32 4194304#32 = (((2 : ℝ) ^ (-127 : ℤ) : ℝ) : EReal) := by
  have h1 : (4194304#32 : BitVec 32).extractLsb' 31 1 = 0#1 := by decide
  have h2 : ((4194304#32 : BitVec 32).extractLsb' 23 8).toNat = 0 := by decide
  have h3 : ((4194304#32 : BitVec 32).extractLsb' 0 23).toNat = 4194304 := by decide
  simp only [Ideal.ofBits, Ideal.ieee, Nat.reduceAdd, h1, h2, h3]
  norm_num [show ((0#1 : BitVec 1) == 1#1) = false from rfl]

/-- Half of it below 2^127. -/
theorem lt_of_half (m : EReal) (h0 : 0 ≤ m) (h : Ideal.ofBits FTy.f32 1056964608#32 * m < power 254) :
    m < (((2 : ℝ) ^ (128 : ℤ) : ℝ) : EReal) := by
  rw [Quantise.half_eq] at h
  have ht : m ≠ ⊤ := by
    rintro rfl
    rw [EReal.coe_mul_top_of_pos (by norm_num)] at h
    exact absurd h (not_lt.mpr le_top)
  obtain ⟨r, rfl⟩ : ∃ r : ℝ, m = (r : EReal) :=
    ⟨m.toReal, (EReal.coe_toReal ht (ne_of_gt (lt_of_lt_of_le EReal.bot_lt_zero h0))).symm⟩
  rw [power_eq (by omega) (by omega), ← EReal.coe_mul, EReal.coe_lt_coe_iff] at h
  have h' : 1 / 2 * r < (2 : ℝ) ^ (127 : ℤ) := lt_of_lt_of_eq h (by norm_num)
  rw [EReal.coe_lt_coe_iff, show (128 : ℤ) = 127 + 1 by norm_num, zpow_add_one₀ (by norm_num)]
  linarith

/-- The scale byte of a block in range. -/
theorem scale_eq (f : Fin 32 → EReal) (h : largest f = 0 ∨ (Ideal.ofBits FTy.f32 4194304#32 ≤ largest f
      ∧ Ideal.ofBits FTy.f32 1056964608#32 * largest f < power 254)) :
    BitVec.setWidth 8 (scaleAt f) = Quantise.scaleByte (Quantise.exponent (largest f)) := by
  refine (Quantise.scaleByte_eq _ (h.imp_right fun ⟨h1, h2⟩ => ?_)).symm
  rw [least_scale_eq] at h1
  exact ⟨h1, lt_of_half _ ((EReal.coe_nonneg.mpr (by positivity)).trans h1) h2⟩

end Cert.Meet

end
-- ==== Proof.Mask.lean ====
/-
  The mask of the claim at an index, over extended reals: what it says of the block's largest magnitude.
-/
module

public import proofs.«01_k».proof.Proof.RefBody
public import proofs.«01_k».proof.Proof.Power
public import proofs.«01_k».proof.Proof.Gen.On_encodable
public import Idealize.ShloMosaic.Lib.Pointwise
public import Idealize.ShloMosaic.Lib.Pipeline.ValueKit
public import Idealize.ShloMosaic.Lib.IdealHost

@[expose] public section

set_option maxRecDepth 16384

noncomputable section

namespace Cert.On_encodable.Mask

open Idealize.ShloMosaic Cert.On_encodable Cert.On_encodable.Gen Idealize.ShloMosaic.Tactic
open Cert.ReferenceIdeal.Body (amax blocks rotated each)
open Cert.KernelIdeal.Power

section
variable {F : FTy → Type} [FloatOps F]

/-- Everywhere. -/
def everywhere : IVec S1x28672x48 1 := broadcastInDim S1x28672x48 ![] bcast_S_S1x28672x48 (constantI S_ 1 1#1)

/-- The blocks whose largest magnitude is zero or in the codes' range. -/
def codeBlocks (a : FVec F S1x28672x48 .f32) : IVec S1x28672x48 1 :=
  ori (cmpf .oeq a (each 0x00000000#32)) (andi (cmpf .oge a (each 0x01000000#32)) (cmpf .ole a (each 0x7F000000#32)))

/-- Their bytes. -/
def codeBytes (a : FVec F S1x28672x48 .f32) : IVec S1x28672x768 1 :=
  shapeCast S1x28672x768 (broadcastInDim S1x28672x48x16 ![0, 1, 2] bcast_S1x28672x48_S1x28672x48x16_0_1_2 (codeBlocks a))
    shapeCasts_S1x28672x48x16_S1x28672x768

/-- The blocks whose largest magnitude is zero or in the scales' range. -/
def scaleBlocks (a : FVec F S1x28672x48 .f32) : IVec S1x28672x48 1 :=
  ori (cmpf .oeq a (each 0x00000000#32)) (andi (cmpf .oge a (each 0x00400000#32)) (cmpf .olt (mulf (each 0x3F000000#32) a) (each 0x7F000000#32)))

theorem fn_eq (x : FVec F S1x1536x28672 .bf16) (s : FVec F S16 .f32) (b : IVec S1x28672x1536 8) :
    fn x s b = (everywhere, codeBytes (amax (blocks (rotated x s))), scaleBlocks (amax (blocks (rotated x s)))) := rfl

end

theorem mask_bits : ∀ p q r : Bool, IntOp.ori (BitVec.ofBool p) (IntOp.andi (BitVec.ofBool q) (BitVec.ofBool r)) = 1#1
    → p = true ∨ (q = true ∧ r = true) := by
  decide

theorem codeBytes_at (a : FVec Ideal S1x28672x48 .f32) (i : Fin 1) (ch : Fin 28672) (p : Fin 768)
    (h : codeBytes a (ix3 i ch p) = 1#1) :
    a (ix3 0 ch ⟨p.val / 16, by omega⟩) = 0 ∨ (power 2 ≤ a (ix3 0 ch ⟨p.val / 16, by omega⟩) ∧ a (ix3 0 ch ⟨p.val / 16, by omega⟩) ≤ power 254) := by
  revert h
  pointwise [codeBytes, codeBlocks]
  exact fun h => (mask_bits _ _ _ h).imp of_decide_eq_true fun h => ⟨of_decide_eq_true h.1, of_decide_eq_true h.2⟩

theorem scaleBlocks_at (a : FVec Ideal S1x28672x48 .f32) (i : Fin 1) (ch : Fin 28672) (b : Fin 48)
    (h : scaleBlocks a (ix3 i ch b) = 1#1) :
    a (ix3 i ch b) = 0 ∨ (Ideal.ofBits FTy.f32 4194304#32 ≤ a (ix3 i ch b) ∧ Ideal.ofBits FTy.f32 1056964608#32 * a (ix3 i ch b) < power 254) := by
  revert h
  pointwise [scaleBlocks]
  exact fun h => (mask_bits _ _ _ h).imp of_decide_eq_true fun h => ⟨of_decide_eq_true h.1, of_decide_eq_true h.2⟩

end Cert.On_encodable.Mask

end
-- ==== Proof.Results.lean ====
/-
  The kernel's three result arrays are the reference's, on the blocks that the mask lists.
-/
module

public import proofs.«01_k».proof.Proof.Arrays
public import proofs.«01_k».proof.Proof.RefAt
public import proofs.«01_k».proof.Proof.Meet
public import proofs.«01_k».proof.Proof.Mask

@[expose] public section

set_option maxRecDepth 16384

noncomputable section

namespace Cert.Results

open Idealize.ShloMosaic Idealize.ShloMosaic.Tactic Cert.KernelIdeal Cert.KernelIdeal.Gen Cert.KernelIdeal.Arrays
open Cert.KernelIdeal.Body (largest scaleAt byteAt)
open Cert.ReferenceIdeal.Body (amax blocks rotated sharedExp scaleByte codes amax_at sharedExp_at scaleByte_at codes_at)
open Cert.On_encodable.Mask

variable (m : (ℓ : Loc nD τ sig) → Buf (Elt Ideal) ℓ) (c : Dev nD)

/-- The reference's three results of the kernel's arguments. -/
abbrev refAmax : FVec Ideal S1x28672x48 .f32 := amax (blocks (rotated (tokens m c) (signs m c)))
abbrev refCodes : IVec S1x28672x768 8 := codes (blocks (rotated (tokens m c) (signs m c))) (sharedExp (refAmax m c)) (random m c)
abbrev refScales : IVec S1x28672x48 8 := scaleByte (sharedExp (refAmax m c))

theorem largest_eq (i : Fin 1) (ch : Fin 28672) (b : Fin 48) : largest (columnAll m c ch b) = refAmax m c (ix3 i ch b) :=
  (amax_at _ i ch b).symm

/-- The largest magnitudes, everywhere. -/
theorem amax_result : (dats m 0 c).arrAt 3 cfg0.N = refAmax m c := by
  rw [amax_array]
  funext j
  obtain ⟨i, ch, b, rfl⟩ : ∃ (i : Fin 1) (ch : Fin 28672) (b : Fin 48), j = ix3 i ch b := ⟨j 0, j 1, j 2, by funext a; fin_cases a <;> rfl⟩
  exact largest_eq m c i ch b

/-- The scale bytes, on the mask. -/
theorem scale_result (j : S1x28672x48.Idx) (h : scaleBlocks (refAmax m c) j = 1#1) :
    (dats m 0 c).arrAt 5 cfg0.N j = refScales m c j := by
  obtain ⟨i, ch, b, rfl⟩ : ∃ (i : Fin 1) (ch : Fin 28672) (b : Fin 48), j = ix3 i ch b := ⟨j 0, j 1, j 2, by funext a; fin_cases a <;> rfl⟩
  have hr := scaleBlocks_at (refAmax m c) i ch b h
  rw [← largest_eq m c i ch b] at hr
  rw [scale_array]
  refine (Meet.scale_eq (columnAll m c ch b) hr).trans ?_
  rw [largest_eq m c i ch b, refScales, scaleByte_at, sharedExp_at]

/-- The codes, on the mask. -/
theorem code_result (j : S1x28672x768.Idx) (h : codeBytes (refAmax m c) j = 1#1) :
    (dats m 0 c).arrAt 4 cfg0.N j = refCodes m c j := by
  obtain ⟨i, ch, p, rfl⟩ : ∃ (i : Fin 1) (ch : Fin 28672) (p : Fin 768), j = ix3 i ch p := ⟨j 0, j 1, j 2, by funext a; fin_cases a <;> rfl⟩
  have hr := codeBytes_at (refAmax m c) i ch p h
  rw [← largest_eq m c 0 ch ⟨p.val / 16, by omega⟩] at hr
  obtain ⟨b, k, rfl⟩ : ∃ (b : Fin 48) (k : Fin 16), p = ⟨16 * b.val + k.val, by omega⟩ :=
    ⟨⟨p.val / 16, by omega⟩, ⟨p.val % 16, by omega⟩, Fin.ext (by simp only; omega)⟩
  have hb : (⟨(16 * b.val + k.val) / 16, by omega⟩ : Fin 48) = b := Fin.ext (by simp only; omega)
  simp only [hb] at hr
  have e : ∀ (n k : ℕ) (h : n < 1536) (h' : b.val * 32 + k < 1536), n = b.val * 32 + k →
      (⟨n, h⟩ : Fin 1536) = ⟨b.val * 32 + k, h'⟩ := fun _ _ _ _ h => Fin.ext h
  rw [code_array]
  show byteAll m c ch ⟨16 * b.val + k.val, by omega⟩ = _
  rw [refCodes, codes_at, sharedExp_at, byteAll]
  simp only [hb]
  rw [e (2 * (16 * b.val + k.val)) (2 * k.val) (by omega) (by omega) (by omega),
    e (2 * (16 * b.val + k.val) + 1) (2 * k.val + 1) (by omega) (by omega) (by omega), ← largest_eq m c 0 ch b]
  exact Meet.byte_eq (columnAll m c ch b) hr ⟨2 * k.val, by omega⟩ ⟨2 * k.val + 1, by omega⟩ _ _

end Cert.Results

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.On_encodable
public import proofs.«01_k».proof.Proof.Results

@[expose] public section

noncomputable section

namespace Cert.Proof

open Idealize.ShloMosaic Idealize.SL.Sem

/-- The reference's frame: its run read at the three arguments; the program has no semaphore. -/
theorem frame_reference : Cert.quiescent_ReferenceIdeal := by
  intro m ρ _
  exact (θ_run Cert.ReferenceIdeal.defs _ _).mono
    (fun r h => ⟨fun c => (h c).2.2.2, sem_eq_zero_of_no_sems (by decide) r.2⟩)
    (Cert.ReferenceIdeal.Value.run (F := Ideal) m ρ)

/-- The value claim: both programs leave the reference's results on the mask, the kernel by Results.lean, the reference by
    its own run. -/
theorem value : Cert.algebraic_KernelIdeal_ReferenceIdeal_on_encodable := by
  intro m g m' g' _ hargs
  have hx : ∀ c, Cert.ReferenceIdeal.Body.argX (F := Ideal) (StableHlo.launchContents m' c) = Cert.KernelIdeal.Arrays.tokens m c := fun c => (hargs c).1
  have hs : ∀ c, Cert.ReferenceIdeal.Body.argS (F := Ideal) (StableHlo.launchContents m' c) = Cert.KernelIdeal.Arrays.signs m c := fun c => (hargs c).2.1
  have hb : ∀ c, Cert.ReferenceIdeal.Body.argB (F := Ideal) (StableHlo.launchContents m' c) = Cert.KernelIdeal.Arrays.random m c := fun c => (hargs c).2.2
  refine ⟨fun c => Cert.Results.refAmax m c, fun c => Cert.Results.refCodes m c, fun c => Cert.Results.refScales m c, ?_, ?_⟩
  · refine (θ_run Cert.KernelIdeal.defs _ _).mono (fun r h c => ?_) (Cert.KernelIdeal.Value.run_blocks (F := Ideal) m g)
    obtain ⟨h0, h1, h2, ha⟩ := h c
    refine ⟨fun i _ => ?_, fun i hi => ?_, fun i hi => ?_, ha⟩
    · rw [h0, Cert.Results.amax_result]
    · rw [h1]; exact Cert.Results.code_result m c i hi
    · rw [h2]; exact Cert.Results.scale_result m c i hi
  · refine (θ_run Cert.ReferenceIdeal.defs _ _).mono (fun r h c => ?_) (Cert.ReferenceIdeal.Value.run (F := Ideal) m' g')
    obtain ⟨h0, h1, h2, ha⟩ := h c
    refine ⟨fun i _ => ?_, fun i _ => ?_, fun i _ => ?_, ha⟩
    · refine congrFun (h0.trans ((Cert.ReferenceIdeal.Body.term_amax _).trans ?_)) i
      rw [hx, hs]
    · refine congrFun (h1.trans ((Cert.ReferenceIdeal.Body.term_codes _).trans ?_)) i
      rw [hx, hs, hb]
    · refine congrFun (h2.trans ((congrArg Cert.ReferenceIdeal.Body.scaleByte (Cert.ReferenceIdeal.Body.term_exp _)).trans ?_)) i
      rw [hx, hs]

/-- `Cert.Claim` (Defs.lean). -/
theorem claim : Cert.Claim :=
  ⟨Cert.Kernel.Gen.facts, Cert.KernelIdeal.Gen.facts, Cert.ReferenceIdeal.Gen.facts, Cert.On_encodable.Gen.facts,
    fun m ρ _ => Cert.Kernel.Gen.frame m ρ,
    fun m ρ _ => Cert.KernelIdeal.Gen.frame m ρ,
    frame_reference,
    trivial,
    value⟩

end Cert.Proof

end
